-- ==== Defs.lean ====
def Pre_Experts [hPre_tables : Cert.Pre_tables.Facts] (m : (ℓ : Loc Cert.Experts.nD Cert.Experts.τ Cert.Experts.sig) → Buf (Elt Bits) ℓ) : Prop :=
  ∀ c : Dev Cert.Experts.nD,
    (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_tables : Cert.Pre_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_tables [hPre_tables : Cert.Pre_tables.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tables.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_Projections (m : (ℓ : Loc Cert.Projections.nD Cert.Projections.τ Cert.Projections.sig) → Buf (Elt Bits) ℓ) : Prop :=
  True

def Pre_ProjectionsIdeal (m : (ℓ : Loc Cert.ProjectionsIdeal.nD Cert.ProjectionsIdeal.τ Cert.ProjectionsIdeal.sig) → Buf (Elt Ideal) ℓ) : Prop :=
  True

def Pre_ProjectionsReferenceIdeal (m : (ℓ : Loc Cert.ProjectionsReferenceIdeal.nD Cert.ProjectionsReferenceIdeal.τ Cert.ProjectionsReferenceIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputReferenceIdeal (m : (ℓ : Loc Cert.OutputReferenceIdeal.nD Cert.OutputReferenceIdeal.τ Cert.OutputReferenceIdeal.sig) → Buf (Elt Ideal) ℓ) : Prop :=
  True

def quiescent_Experts [hExperts : Cert.Experts.Facts] [hPre_tables : Cert.Pre_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_tables [hExpertsReferenceIdeal : Cert.ExpertsReferenceIdeal.Facts] [hPre_tables : Cert.Pre_tables.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_tables m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_Projections [hProjections : Cert.Projections.Facts] : Prop :=
  ∀ (m : (ℓ : Loc Cert.Projections.nD Cert.Projections.τ Cert.Projections.sig) → Buf (Elt Bits) ℓ) (g : Dev Cert.Projections.nD → PrngReg), Pre_Projections m →
    θ_run (Cert.Projections.defs (F := Bits)) (onTc (τ := Cert.Projections.τ) (Cert.Projections.main (F := Bits))) ⟨m, fun _ => 0, g⟩ (fun r => (∀ c : Dev Cert.Projections.nD,
      r.2.mem ((c.tc : Thread Cert.Projections.nD Cert.Projections.τ).loc Cert.Projections.main_arg0) = m ((c.tc : Thread Cert.Projections.nD Cert.Projections.τ).loc Cert.Projections.main_arg0)
      ∧ r.2.mem ((c.tc : Thread Cert.Projections.nD Cert.Projections.τ).loc Cert.Projections.main_arg1) = m ((c.tc : Thread Cert.Projections.nD Cert.Projections.τ).loc Cert.Projections.main_arg1)
      ∧ r.2.mem ((c.tc : Thread Cert.Projections.nD Cert.Projections.τ).loc Cert.Projections.main_arg2) = m ((c.tc : Thread Cert.Projections.nD Cert.Projections.τ).loc Cert.Projections.main_arg2)
      ∧ r.2.mem ((c.tc : Thread Cert.Projections.nD Cert.Projections.τ).loc Cert.Projections.main_arg3) = m ((c.tc : Thread Cert.Projections.nD Cert.Projections.τ).loc Cert.Projections.main_arg3)
      ∧ r.2.mem ((c.tc : Thread Cert.Projections.nD Cert.Projections.τ).loc Cert.Projections.main_arg4) = m ((c.tc : Thread Cert.Projections.nD Cert.Projections.τ).loc Cert.Projections.main_arg4)
      ∧ r.2.mem ((c.tc : Thread Cert.Projections.nD Cert.Projections.τ).loc Cert.Projections.main_arg5) = m ((c.tc : Thread Cert.Projections.nD Cert.Projections.τ).loc Cert.Projections.main_arg5))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5))
      ∧ r.2.sem = fun _ => 0)

def quiescent_ProjectionsReferenceIdeal [hProjectionsReferenceIdeal : Cert.ProjectionsReferenceIdeal.Facts] : Prop :=
  ∀ (m : (ℓ : Loc Cert.ProjectionsReferenceIdeal.nD Cert.ProjectionsReferenceIdeal.τ Cert.ProjectionsReferenceIdeal.sig) → Buf (Elt Ideal) ℓ) (g : Dev Cert.ProjectionsReferenceIdeal.nD → PrngReg), Pre_ProjectionsReferenceIdeal m →
    θ_run (Cert.ProjectionsReferenceIdeal.defs (F := Ideal)) (onTc (τ := Cert.ProjectionsReferenceIdeal.τ) (Cert.ProjectionsReferenceIdeal.main (F := Ideal))) ⟨m, fun _ => 0, g⟩ (fun r => (∀ c : Dev Cert.ProjectionsReferenceIdeal.nD,
      r.2.mem ((c.tc : Thread Cert.ProjectionsReferenceIdeal.nD Cert.ProjectionsReferenceIdeal.τ).loc Cert.ProjectionsReferenceIdeal.main_arg0) = m ((c.tc : Thread Cert.ProjectionsReferenceIdeal.nD Cert.ProjectionsReferenceIdeal.τ).loc Cert.ProjectionsReferenceIdeal.main_arg0)
      ∧ r.2.mem ((c.tc : Thread Cert.ProjectionsReferenceIdeal.nD Cert.ProjectionsReferenceIdeal.τ).loc Cert.ProjectionsReferenceIdeal.main_arg1) = m ((c.tc : Thread Cert.ProjectionsReferenceIdeal.nD Cert.ProjectionsReferenceIdeal.τ).loc Cert.ProjectionsReferenceIdeal.main_arg1)
      ∧ r.2.mem ((c.tc : Thread Cert.ProjectionsReferenceIdeal.nD Cert.ProjectionsReferenceIdeal.τ).loc Cert.ProjectionsReferenceIdeal.main_arg2) = m ((c.tc : Thread Cert.ProjectionsReferenceIdeal.nD Cert.ProjectionsReferenceIdeal.τ).loc Cert.ProjectionsReferenceIdeal.main_arg2)
      ∧ r.2.mem ((c.tc : Thread Cert.ProjectionsReferenceIdeal.nD Cert.ProjectionsReferenceIdeal.τ).loc Cert.ProjectionsReferenceIdeal.main_arg3) = m ((c.tc : Thread Cert.ProjectionsReferenceIdeal.nD Cert.ProjectionsReferenceIdeal.τ).loc Cert.ProjectionsReferenceIdeal.main_arg3)
      ∧ r.2.mem ((c.tc : Thread Cert.ProjectionsReferenceIdeal.nD Cert.ProjectionsReferenceIdeal.τ).loc Cert.ProjectionsReferenceIdeal.main_arg4) = m ((c.tc : Thread Cert.ProjectionsReferenceIdeal.nD Cert.ProjectionsReferenceIdeal.τ).loc Cert.ProjectionsReferenceIdeal.main_arg4)
      ∧ r.2.mem ((c.tc : Thread Cert.ProjectionsReferenceIdeal.nD Cert.ProjectionsReferenceIdeal.τ).loc Cert.ProjectionsReferenceIdeal.main_arg5) = m ((c.tc : Thread Cert.ProjectionsReferenceIdeal.nD Cert.ProjectionsReferenceIdeal.τ).loc Cert.ProjectionsReferenceIdeal.main_arg5))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5)
      ∧ r.2.mem ((c.tc : Thread Cert.Output.nD Cert.Output.τ).loc Cert.Output.main_arg6) = m ((c.tc : Thread Cert.Output.nD Cert.Output.τ).loc Cert.Output.main_arg6)
      ∧ r.2.mem ((c.tc : Thread Cert.Output.nD Cert.Output.τ).loc Cert.Output.main_arg7) = m ((c.tc : Thread Cert.Output.nD Cert.Output.τ).loc Cert.Output.main_arg7)
      ∧ r.2.mem ((c.tc : Thread Cert.Output.nD Cert.Output.τ).loc Cert.Output.main_arg8) = m ((c.tc : Thread Cert.Output.nD Cert.Output.τ).loc Cert.Output.main_arg8)
      ∧ r.2.mem ((c.tc : Thread Cert.Output.nD Cert.Output.τ).loc Cert.Output.main_arg9) = m ((c.tc : Thread Cert.Output.nD Cert.Output.τ).loc Cert.Output.main_arg9))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
      ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
      ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
      ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8)
      ∧ r.2.mem ((c.tc : Thread Cert.OutputIdeal.nD Cert.OutputIdeal.τ).loc Cert.OutputIdeal.main_arg9) = m ((c.tc : Thread Cert.OutputIdeal.nD Cert.OutputIdeal.τ).loc Cert.OutputIdeal.main_arg9))
      ∧ r.2.sem = fun _ => 0)

def quiescent_OutputReferenceIdeal [hOutputReferenceIdeal : Cert.OutputReferenceIdeal.Facts] : Prop :=
  ∀ (m : (ℓ : Loc Cert.OutputReferenceIdeal.nD Cert.OutputReferenceIdeal.τ Cert.OutputReferenceIdeal.sig) → Buf (Elt Ideal) ℓ) (g : Dev Cert.OutputReferenceIdeal.nD → PrngReg), Pre_OutputReferenceIdeal m →
    θ_run (Cert.OutputReferenceIdeal.defs (F := Ideal)) (onTc (τ := Cert.OutputReferenceIdeal.τ) (Cert.OutputReferenceIdeal.main (F := Ideal))) ⟨m, fun _ => 0, g⟩ (fun r => (∀ c : Dev Cert.OutputReferenceIdeal.nD,
      r.2.mem ((c.tc : Thread Cert.OutputReferenceIdeal.nD Cert.OutputReferenceIdeal.τ).loc Cert.OutputReferenceIdeal.main_arg0) = m ((c.tc : Thread Cert.OutputReferenceIdeal.nD Cert.OutputReferenceIdeal.τ).loc Cert.OutputReferenceIdeal.main_arg0)
      ∧ r.2.mem ((c.tc : Thread Cert.OutputReferenceIdeal.nD Cert.OutputReferenceIdeal.τ).loc Cert.OutputReferenceIdeal.main_arg1) = m ((c.tc : Thread Cert.OutputReferenceIdeal.nD Cert.OutputReferenceIdeal.τ).loc Cert.OutputReferenceIdeal.main_arg1)
      ∧ r.2.mem ((c.tc : Thread Cert.OutputReferenceIdeal.nD Cert.OutputReferenceIdeal.τ).loc Cert.OutputReferenceIdeal.main_arg2) = m ((c.tc : Thread Cert.OutputReferenceIdeal.nD Cert.OutputReferenceIdeal.τ).loc Cert.OutputReferenceIdeal.main_arg2)
      ∧ r.2.mem ((c.tc : Thread Cert.OutputReferenceIdeal.nD Cert.OutputReferenceIdeal.τ).loc Cert.OutputReferenceIdeal.main_arg3) = m ((c.tc : Thread Cert.OutputReferenceIdeal.nD Cert.OutputReferenceIdeal.τ).loc Cert.OutputReferenceIdeal.main_arg3)
      ∧ r.2.mem ((c.tc : Thread Cert.OutputReferenceIdeal.nD Cert.OutputReferenceIdeal.τ).loc Cert.OutputReferenceIdeal.main_arg4) = m ((c.tc : Thread Cert.OutputReferenceIdeal.nD Cert.OutputReferenceIdeal.τ).loc Cert.OutputReferenceIdeal.main_arg4)
      ∧ r.2.mem ((c.tc : Thread Cert.OutputReferenceIdeal.nD Cert.OutputReferenceIdeal.τ).loc Cert.OutputReferenceIdeal.main_arg5) = m ((c.tc : Thread Cert.OutputReferenceIdeal.nD Cert.OutputReferenceIdeal.τ).loc Cert.OutputReferenceIdeal.main_arg5)
      ∧ r.2.mem ((c.tc : Thread Cert.OutputReferenceIdeal.nD Cert.OutputReferenceIdeal.τ).loc Cert.OutputReferenceIdeal.main_arg6) = m ((c.tc : Thread Cert.OutputReferenceIdeal.nD Cert.OutputReferenceIdeal.τ).loc Cert.OutputReferenceIdeal.main_arg6)
      ∧ r.2.mem ((c.tc : Thread Cert.OutputReferenceIdeal.nD Cert.OutputReferenceIdeal.τ).loc Cert.OutputReferenceIdeal.main_arg7) = m ((c.tc : Thread Cert.OutputReferenceIdeal.nD Cert.OutputReferenceIdeal.τ).loc Cert.OutputReferenceIdeal.main_arg7)
      ∧ r.2.mem ((c.tc : Thread Cert.OutputReferenceIdeal.nD Cert.OutputReferenceIdeal.τ).loc Cert.OutputReferenceIdeal.main_arg8) = m ((c.tc : Thread Cert.OutputReferenceIdeal.nD Cert.OutputReferenceIdeal.τ).loc Cert.OutputReferenceIdeal.main_arg8)
      ∧ r.2.mem ((c.tc : Thread Cert.OutputReferenceIdeal.nD Cert.OutputReferenceIdeal.τ).loc Cert.OutputReferenceIdeal.main_arg9) = m ((c.tc : Thread Cert.OutputReferenceIdeal.nD Cert.OutputReferenceIdeal.τ).loc Cert.OutputReferenceIdeal.main_arg9))
      ∧ r.2.sem = fun _ => 0)

def preserves_Experts_ExpertsIdeal : Prop :=
  True

def algebraic_ExpertsIdeal_ExpertsReferenceIdeal_on_active [hExpertsIdeal : Cert.ExpertsIdeal.Facts] [hExpertsReferenceIdeal : Cert.ExpertsReferenceIdeal.Facts] [hPre_tables : Cert.Pre_tables.Facts] [hOn_active : Cert.On_active.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![77824, 1024]⟩ : Shape).Idx, (Cert.On_active.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) i = 1#1 → r.2.mem ((c.tc : Thread Cert.ExpertsIdeal.nD Cert.ExpertsIdeal.τ).loc Cert.ExpertsIdeal.main_v0) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          (∀ i : (⟨2, ![77824, 1024]⟩ : Shape).Idx, (Cert.On_active.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) i = 1#1 → r.2.mem ((c.tc : Thread Cert.ExpertsReferenceIdeal.nD Cert.ExpertsReferenceIdeal.τ).loc Cert.ExpertsReferenceIdeal.main_v52) i = v0 c i)
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_Projections_ProjectionsIdeal : Prop :=
  True

def algebraic_ProjectionsIdeal_ProjectionsReferenceIdeal [hProjectionsIdeal : Cert.ProjectionsIdeal.Facts] [hProjectionsReferenceIdeal : Cert.ProjectionsReferenceIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg)
    (m' : (ℓ : Loc Cert.ProjectionsReferenceIdeal.nD Cert.ProjectionsReferenceIdeal.τ Cert.ProjectionsReferenceIdeal.sig) → Buf (Elt Ideal) ℓ) (g' : Dev Cert.ProjectionsReferenceIdeal.nD → PrngReg), Pre_ProjectionsIdeal m →
    (∀ c : Dev Cert.ProjectionsIdeal.nD,
      m' ((c.tc : Thread Cert.ProjectionsReferenceIdeal.nD Cert.ProjectionsReferenceIdeal.τ).loc Cert.ProjectionsReferenceIdeal.main_arg0) = m ((c.tc : Thread Cert.ProjectionsIdeal.nD Cert.ProjectionsIdeal.τ).loc Cert.ProjectionsIdeal.main_arg0)
      ∧ m' ((c.tc : Thread Cert.ProjectionsReferenceIdeal.nD Cert.ProjectionsReferenceIdeal.τ).loc Cert.ProjectionsReferenceIdeal.main_arg1) = m ((c.tc : Thread Cert.ProjectionsIdeal.nD Cert.ProjectionsIdeal.τ).loc Cert.ProjectionsIdeal.main_arg1)
      ∧ m' ((c.tc : Thread Cert.ProjectionsReferenceIdeal.nD Cert.ProjectionsReferenceIdeal.τ).loc Cert.ProjectionsReferenceIdeal.main_arg2) = m ((c.tc : Thread Cert.ProjectionsIdeal.nD Cert.ProjectionsIdeal.τ).loc Cert.ProjectionsIdeal.main_arg2)
      ∧ m' ((c.tc : Thread Cert.ProjectionsReferenceIdeal.nD Cert.ProjectionsReferenceIdeal.τ).loc Cert.ProjectionsReferenceIdeal.main_arg3) = m ((c.tc : Thread Cert.ProjectionsIdeal.nD Cert.ProjectionsIdeal.τ).loc Cert.ProjectionsIdeal.main_arg3)
      ∧ m' ((c.tc : Thread Cert.ProjectionsReferenceIdeal.nD Cert.ProjectionsReferenceIdeal.τ).loc Cert.ProjectionsReferenceIdeal.main_arg4) = m ((c.tc : Thread Cert.ProjectionsIdeal.nD Cert.ProjectionsIdeal.τ).loc Cert.ProjectionsIdeal.main_arg4)
      ∧ m' ((c.tc : Thread Cert.ProjectionsReferenceIdeal.nD Cert.ProjectionsReferenceIdeal.τ).loc Cert.ProjectionsReferenceIdeal.main_arg5) = m ((c.tc : Thread Cert.ProjectionsIdeal.nD Cert.ProjectionsIdeal.τ).loc Cert.ProjectionsIdeal.main_arg5)) →
    ∃ (v0 : (c : Dev Cert.ProjectionsIdeal.nD) → Buf (Elt Ideal) ((c.tc : Thread Cert.ProjectionsIdeal.nD Cert.ProjectionsIdeal.τ).loc Cert.ProjectionsIdeal.main_v29_0)) (v1 : (c : Dev Cert.ProjectionsIdeal.nD) → Buf (Elt Ideal) ((c.tc : Thread Cert.ProjectionsIdeal.nD Cert.ProjectionsIdeal.τ).loc Cert.ProjectionsIdeal.main_v29_1)) (v2 : (c : Dev Cert.ProjectionsIdeal.nD) → Buf (Elt Ideal) ((c.tc : Thread Cert.ProjectionsIdeal.nD Cert.ProjectionsIdeal.τ).loc Cert.ProjectionsIdeal.main_v29_2)) (v3 : (c : Dev Cert.ProjectionsIdeal.nD) → Buf (Elt Ideal) ((c.tc : Thread Cert.ProjectionsIdeal.nD Cert.ProjectionsIdeal.τ).loc Cert.ProjectionsIdeal.main_v29_3)) (v4 : (c : Dev Cert.ProjectionsIdeal.nD) → Buf (Elt Ideal) ((c.tc : Thread Cert.ProjectionsIdeal.nD Cert.ProjectionsIdeal.τ).loc Cert.ProjectionsIdeal.main_v29_4)) (v5 : (c : Dev Cert.ProjectionsIdeal.nD) → Buf (Elt Ideal) ((c.tc : Thread Cert.ProjectionsIdeal.nD Cert.ProjectionsIdeal.τ).loc Cert.ProjectionsIdeal.main_v29_5)) (v6 : (c : Dev Cert.ProjectionsIdeal.nD) → Buf (Elt Ideal) ((c.tc : Thread Cert.ProjectionsIdeal.nD Cert.ProjectionsIdeal.τ).loc Cert.ProjectionsIdeal.main_v29_6)) (v7 : (c : Dev Cert.ProjectionsIdeal.nD) → Buf (Elt Ideal) ((c.tc : Thread Cert.ProjectionsIdeal.nD Cert.ProjectionsIdeal.τ).loc Cert.ProjectionsIdeal.main_v29_7)) (v8 : (c : Dev Cert.ProjectionsIdeal.nD) → Buf (Elt Ideal) ((c.tc : Thread Cert.ProjectionsIdeal.nD Cert.ProjectionsIdeal.τ).loc Cert.ProjectionsIdeal.main_v29_8)),
      θ_run (Cert.ProjectionsIdeal.defs (F := Ideal)) (onTc (τ := Cert.ProjectionsIdeal.τ) (Cert.ProjectionsIdeal.main (F := Ideal))) ⟨m, fun _ => 0, g⟩ (fun r => ∀ c : Dev Cert.ProjectionsIdeal.nD,
          r.2.mem ((c.tc : Thread Cert.ProjectionsIdeal.nD Cert.ProjectionsIdeal.τ).loc Cert.ProjectionsIdeal.main_v29_0) = v0 c
          ∧ r.2.mem ((c.tc : Thread Cert.ProjectionsIdeal.nD Cert.ProjectionsIdeal.τ).loc Cert.ProjectionsIdeal.main_v29_1) = v1 c
          ∧ r.2.mem ((c.tc : Thread Cert.ProjectionsIdeal.nD Cert.ProjectionsIdeal.τ).loc Cert.ProjectionsIdeal.main_v29_2) = v2 c
          ∧ r.2.mem ((c.tc : Thread Cert.ProjectionsIdeal.nD Cert.ProjectionsIdeal.τ).loc Cert.ProjectionsIdeal.main_v29_3) = v3 c
          ∧ r.2.mem ((c.tc : Thread Cert.ProjectionsIdeal.nD Cert.ProjectionsIdeal.τ).loc Cert.ProjectionsIdeal.main_v29_4) = v4 c
          ∧ r.2.mem ((c.tc : Thread Cert.ProjectionsIdeal.nD Cert.ProjectionsIdeal.τ).loc Cert.ProjectionsIdeal.main_v29_5) = v5 c
          ∧ r.2.mem ((c.tc : Thread Cert.ProjectionsIdeal.nD Cert.ProjectionsIdeal.τ).loc Cert.ProjectionsIdeal.main_v29_6) = v6 c
          ∧ r.2.mem ((c.tc : Thread Cert.ProjectionsIdeal.nD Cert.ProjectionsIdeal.τ).loc Cert.ProjectionsIdeal.main_v29_7) = v7 c
          ∧ r.2.mem ((c.tc : Thread Cert.ProjectionsIdeal.nD Cert.ProjectionsIdeal.τ).loc Cert.ProjectionsIdeal.main_v29_8) = v8 c
          ∧ r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
          ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
          ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5))
      ∧ θ_run (Cert.ProjectionsReferenceIdeal.defs (F := Ideal)) (onTc (τ := Cert.ProjectionsReferenceIdeal.τ) (Cert.ProjectionsReferenceIdeal.main (F := Ideal))) ⟨m', fun _ => 0, g'⟩ (fun r => ∀ c : Dev Cert.ProjectionsReferenceIdeal.nD,
          r.2.mem ((c.tc : Thread Cert.ProjectionsReferenceIdeal.nD Cert.ProjectionsReferenceIdeal.τ).loc Cert.ProjectionsReferenceIdeal.main_v19) = v0 c
          ∧ r.2.mem ((c.tc : Thread Cert.ProjectionsReferenceIdeal.nD Cert.ProjectionsReferenceIdeal.τ).loc Cert.ProjectionsReferenceIdeal.main_v21) = v1 c
          ∧ r.2.mem ((c.tc : Thread Cert.ProjectionsReferenceIdeal.nD Cert.ProjectionsReferenceIdeal.τ).loc Cert.ProjectionsReferenceIdeal.main_v22) = v2 c
          ∧ r.2.mem ((c.tc : Thread Cert.ProjectionsReferenceIdeal.nD Cert.ProjectionsReferenceIdeal.τ).loc Cert.ProjectionsReferenceIdeal.main_v25) = v3 c
          ∧ r.2.mem ((c.tc : Thread Cert.ProjectionsReferenceIdeal.nD Cert.ProjectionsReferenceIdeal.τ).loc Cert.ProjectionsReferenceIdeal.main_v26) = v4 c
          ∧ r.2.mem ((c.tc : Thread Cert.ProjectionsReferenceIdeal.nD Cert.ProjectionsReferenceIdeal.τ).loc Cert.ProjectionsReferenceIdeal.main_v27) = v5 c
          ∧ r.2.mem ((c.tc : Thread Cert.ProjectionsReferenceIdeal.nD Cert.ProjectionsReferenceIdeal.τ).loc Cert.ProjectionsReferenceIdeal.main_v41) = v6 c
          ∧ r.2.mem ((c.tc : Thread Cert.ProjectionsReferenceIdeal.nD Cert.ProjectionsReferenceIdeal.τ).loc Cert.ProjectionsReferenceIdeal.main_v42) = v7 c
          ∧ r.2.mem ((c.tc : Thread Cert.ProjectionsReferenceIdeal.nD Cert.ProjectionsReferenceIdeal.τ).loc Cert.ProjectionsReferenceIdeal.main_v44) = v8 c
          ∧ r.2.mem ((c.tc : Thread Cert.ProjectionsReferenceIdeal.nD Cert.ProjectionsReferenceIdeal.τ).loc Cert.ProjectionsReferenceIdeal.main_arg0) = m' ((c.tc : Thread Cert.ProjectionsReferenceIdeal.nD Cert.ProjectionsReferenceIdeal.τ).loc Cert.ProjectionsReferenceIdeal.main_arg0)
          ∧ r.2.mem ((c.tc : Thread Cert.ProjectionsReferenceIdeal.nD Cert.ProjectionsReferenceIdeal.τ).loc Cert.ProjectionsReferenceIdeal.main_arg1) = m' ((c.tc : Thread Cert.ProjectionsReferenceIdeal.nD Cert.ProjectionsReferenceIdeal.τ).loc Cert.ProjectionsReferenceIdeal.main_arg1)
          ∧ r.2.mem ((c.tc : Thread Cert.ProjectionsReferenceIdeal.nD Cert.ProjectionsReferenceIdeal.τ).loc Cert.ProjectionsReferenceIdeal.main_arg2) = m' ((c.tc : Thread Cert.ProjectionsReferenceIdeal.nD Cert.ProjectionsReferenceIdeal.τ).loc Cert.ProjectionsReferenceIdeal.main_arg2)
          ∧ r.2.mem ((c.tc : Thread Cert.ProjectionsReferenceIdeal.nD Cert.ProjectionsReferenceIdeal.τ).loc Cert.ProjectionsReferenceIdeal.main_arg3) = m' ((c.tc : Thread Cert.ProjectionsReferenceIdeal.nD Cert.ProjectionsReferenceIdeal.τ).loc Cert.ProjectionsReferenceIdeal.main_arg3)
          ∧ r.2.mem ((c.tc : Thread Cert.ProjectionsReferenceIdeal.nD Cert.ProjectionsReferenceIdeal.τ).loc Cert.ProjectionsReferenceIdeal.main_arg4) = m' ((c.tc : Thread Cert.ProjectionsReferenceIdeal.nD Cert.ProjectionsReferenceIdeal.τ).loc Cert.ProjectionsReferenceIdeal.main_arg4)
          ∧ r.2.mem ((c.tc : Thread Cert.ProjectionsReferenceIdeal.nD Cert.ProjectionsReferenceIdeal.τ).loc Cert.ProjectionsReferenceIdeal.main_arg5) = m' ((c.tc : Thread Cert.ProjectionsReferenceIdeal.nD Cert.ProjectionsReferenceIdeal.τ).loc Cert.ProjectionsReferenceIdeal.main_arg5))

def preserves_Output_OutputIdeal : Prop :=
  True

def algebraic_OutputIdeal_OutputReferenceIdeal [hOutputIdeal : Cert.OutputIdeal.Facts] [hOutputReferenceIdeal : Cert.OutputReferenceIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputReferenceIdeal.nD Cert.OutputReferenceIdeal.τ Cert.OutputReferenceIdeal.sig) → Buf (Elt Ideal) ℓ) (g' : Dev Cert.OutputReferenceIdeal.nD → PrngReg), Pre_OutputIdeal m →
    (∀ c : Dev Cert.OutputIdeal.nD,
      m' ((c.tc : Thread Cert.OutputReferenceIdeal.nD Cert.OutputReferenceIdeal.τ).loc Cert.OutputReferenceIdeal.main_arg0) = m ((c.tc : Thread Cert.OutputIdeal.nD Cert.OutputIdeal.τ).loc Cert.OutputIdeal.main_arg0)
      ∧ m' ((c.tc : Thread Cert.OutputReferenceIdeal.nD Cert.OutputReferenceIdeal.τ).loc Cert.OutputReferenceIdeal.main_arg1) = m ((c.tc : Thread Cert.OutputIdeal.nD Cert.OutputIdeal.τ).loc Cert.OutputIdeal.main_arg1)
      ∧ m' ((c.tc : Thread Cert.OutputReferenceIdeal.nD Cert.OutputReferenceIdeal.τ).loc Cert.OutputReferenceIdeal.main_arg2) = m ((c.tc : Thread Cert.OutputIdeal.nD Cert.OutputIdeal.τ).loc Cert.OutputIdeal.main_arg2)
      ∧ m' ((c.tc : Thread Cert.OutputReferenceIdeal.nD Cert.OutputReferenceIdeal.τ).loc Cert.OutputReferenceIdeal.main_arg3) = m ((c.tc : Thread Cert.OutputIdeal.nD Cert.OutputIdeal.τ).loc Cert.OutputIdeal.main_arg3)
      ∧ m' ((c.tc : Thread Cert.OutputReferenceIdeal.nD Cert.OutputReferenceIdeal.τ).loc Cert.OutputReferenceIdeal.main_arg4) = m ((c.tc : Thread Cert.OutputIdeal.nD Cert.OutputIdeal.τ).loc Cert.OutputIdeal.main_arg4)
      ∧ m' ((c.tc : Thread Cert.OutputReferenceIdeal.nD Cert.OutputReferenceIdeal.τ).loc Cert.OutputReferenceIdeal.main_arg5) = m ((c.tc : Thread Cert.OutputIdeal.nD Cert.OutputIdeal.τ).loc Cert.OutputIdeal.main_arg5)
      ∧ m' ((c.tc : Thread Cert.OutputReferenceIdeal.nD Cert.OutputReferenceIdeal.τ).loc Cert.OutputReferenceIdeal.main_arg6) = m ((c.tc : Thread Cert.OutputIdeal.nD Cert.OutputIdeal.τ).loc Cert.OutputIdeal.main_arg6)
      ∧ m' ((c.tc : Thread Cert.OutputReferenceIdeal.nD Cert.OutputReferenceIdeal.τ).loc Cert.OutputReferenceIdeal.main_arg7) = m ((c.tc : Thread Cert.OutputIdeal.nD Cert.OutputIdeal.τ).loc Cert.OutputIdeal.main_arg7)
      ∧ m' ((c.tc : Thread Cert.OutputReferenceIdeal.nD Cert.OutputReferenceIdeal.τ).loc Cert.OutputReferenceIdeal.main_arg8) = m ((c.tc : Thread Cert.OutputIdeal.nD Cert.OutputIdeal.τ).loc Cert.OutputIdeal.main_arg8)
      ∧ m' ((c.tc : Thread Cert.OutputReferenceIdeal.nD Cert.OutputReferenceIdeal.τ).loc Cert.OutputReferenceIdeal.main_arg9) = m ((c.tc : Thread Cert.OutputIdeal.nD Cert.OutputIdeal.τ).loc Cert.OutputIdeal.main_arg9)) →
    ∃ (v0 : (c : Dev Cert.OutputIdeal.nD) → Buf (Elt Ideal) ((c.tc : Thread Cert.OutputIdeal.nD Cert.OutputIdeal.τ).loc Cert.OutputIdeal.main_v12_0)) (v1 : (c : Dev Cert.OutputIdeal.nD) → Buf (Elt Ideal) ((c.tc : Thread Cert.OutputIdeal.nD Cert.OutputIdeal.τ).loc Cert.OutputIdeal.main_v12_1)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v12_0) = v0 c
          ∧ r.2.mem ((c.tc : Thread Cert.OutputIdeal.nD Cert.OutputIdeal.τ).loc Cert.OutputIdeal.main_v12_1) = v1 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
          ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
          ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
          ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8)
          ∧ r.2.mem ((c.tc : Thread Cert.OutputIdeal.nD Cert.OutputIdeal.τ).loc Cert.OutputIdeal.main_arg9) = m ((c.tc : Thread Cert.OutputIdeal.nD Cert.OutputIdeal.τ).loc Cert.OutputIdeal.main_arg9))
      ∧ θ_run (Cert.OutputReferenceIdeal.defs (F := Ideal)) (onTc (τ := Cert.OutputReferenceIdeal.τ) (Cert.OutputReferenceIdeal.main (F := Ideal))) ⟨m', fun _ => 0, g'⟩ (fun r => ∀ c : Dev Cert.OutputReferenceIdeal.nD,
          r.2.mem ((c.tc : Thread Cert.OutputReferenceIdeal.nD Cert.OutputReferenceIdeal.τ).loc Cert.OutputReferenceIdeal.main_v10) = v0 c
          ∧ r.2.mem ((c.tc : Thread Cert.OutputReferenceIdeal.nD Cert.OutputReferenceIdeal.τ).loc Cert.OutputReferenceIdeal.main_v24) = v1 c
          ∧ r.2.mem ((c.tc : Thread Cert.OutputReferenceIdeal.nD Cert.OutputReferenceIdeal.τ).loc Cert.OutputReferenceIdeal.main_arg0) = m' ((c.tc : Thread Cert.OutputReferenceIdeal.nD Cert.OutputReferenceIdeal.τ).loc Cert.OutputReferenceIdeal.main_arg0)
          ∧ r.2.mem ((c.tc : Thread Cert.OutputReferenceIdeal.nD Cert.OutputReferenceIdeal.τ).loc Cert.OutputReferenceIdeal.main_arg1) = m' ((c.tc : Thread Cert.OutputReferenceIdeal.nD Cert.OutputReferenceIdeal.τ).loc Cert.OutputReferenceIdeal.main_arg1)
          ∧ r.2.mem ((c.tc : Thread Cert.OutputReferenceIdeal.nD Cert.OutputReferenceIdeal.τ).loc Cert.OutputReferenceIdeal.main_arg2) = m' ((c.tc : Thread Cert.OutputReferenceIdeal.nD Cert.OutputReferenceIdeal.τ).loc Cert.OutputReferenceIdeal.main_arg2)
          ∧ r.2.mem ((c.tc : Thread Cert.OutputReferenceIdeal.nD Cert.OutputReferenceIdeal.τ).loc Cert.OutputReferenceIdeal.main_arg3) = m' ((c.tc : Thread Cert.OutputReferenceIdeal.nD Cert.OutputReferenceIdeal.τ).loc Cert.OutputReferenceIdeal.main_arg3)
          ∧ r.2.mem ((c.tc : Thread Cert.OutputReferenceIdeal.nD Cert.OutputReferenceIdeal.τ).loc Cert.OutputReferenceIdeal.main_arg4) = m' ((c.tc : Thread Cert.OutputReferenceIdeal.nD Cert.OutputReferenceIdeal.τ).loc Cert.OutputReferenceIdeal.main_arg4)
          ∧ r.2.mem ((c.tc : Thread Cert.OutputReferenceIdeal.nD Cert.OutputReferenceIdeal.τ).loc Cert.OutputReferenceIdeal.main_arg5) = m' ((c.tc : Thread Cert.OutputReferenceIdeal.nD Cert.OutputReferenceIdeal.τ).loc Cert.OutputReferenceIdeal.main_arg5)
          ∧ r.2.mem ((c.tc : Thread Cert.OutputReferenceIdeal.nD Cert.OutputReferenceIdeal.τ).loc Cert.OutputReferenceIdeal.main_arg6) = m' ((c.tc : Thread Cert.OutputReferenceIdeal.nD Cert.OutputReferenceIdeal.τ).loc Cert.OutputReferenceIdeal.main_arg6)
          ∧ r.2.mem ((c.tc : Thread Cert.OutputReferenceIdeal.nD Cert.OutputReferenceIdeal.τ).loc Cert.OutputReferenceIdeal.main_arg7) = m' ((c.tc : Thread Cert.OutputReferenceIdeal.nD Cert.OutputReferenceIdeal.τ).loc Cert.OutputReferenceIdeal.main_arg7)
          ∧ r.2.mem ((c.tc : Thread Cert.OutputReferenceIdeal.nD Cert.OutputReferenceIdeal.τ).loc Cert.OutputReferenceIdeal.main_arg8) = m' ((c.tc : Thread Cert.OutputReferenceIdeal.nD Cert.OutputReferenceIdeal.τ).loc Cert.OutputReferenceIdeal.main_arg8)
          ∧ r.2.mem ((c.tc : Thread Cert.OutputReferenceIdeal.nD Cert.OutputReferenceIdeal.τ).loc Cert.OutputReferenceIdeal.main_arg9) = m' ((c.tc : Thread Cert.OutputReferenceIdeal.nD Cert.OutputReferenceIdeal.τ).loc Cert.OutputReferenceIdeal.main_arg9))

def Claim : Prop :=
  ∃ (hExperts : Cert.Experts.Facts) (hExpertsIdeal : Cert.ExpertsIdeal.Facts) (hExpertsReferenceIdeal : Cert.ExpertsReferenceIdeal.Facts) (hProjections : Cert.Projections.Facts) (hProjectionsIdeal : Cert.ProjectionsIdeal.Facts) (hProjectionsReferenceIdeal : Cert.ProjectionsReferenceIdeal.Facts) (hOutput : Cert.Output.Facts) (hOutputIdeal : Cert.OutputIdeal.Facts) (hOutputReferenceIdeal : Cert.OutputReferenceIdeal.Facts) (hPre_tables : Cert.Pre_tables.Facts) (hOn_active : Cert.On_active.Facts),
    quiescent_Experts (hExperts := hExperts) (hPre_tables := hPre_tables)
    ∧ quiescent_ExpertsIdeal (hExpertsIdeal := hExpertsIdeal) (hPre_tables := hPre_tables)
    ∧ quiescent_ExpertsReferenceIdeal (hExpertsReferenceIdeal := hExpertsReferenceIdeal)
    ∧ quiescent_ExpertsReferenceIdeal_pre_tables (hExpertsReferenceIdeal := hExpertsReferenceIdeal) (hPre_tables := hPre_tables)
    ∧ quiescent_Projections (hProjections := hProjections)
    ∧ quiescent_ProjectionsIdeal (hProjectionsIdeal := hProjectionsIdeal)
    ∧ quiescent_ProjectionsReferenceIdeal (hProjectionsReferenceIdeal := hProjectionsReferenceIdeal)
    ∧ quiescent_Output (hOutput := hOutput)
    ∧ quiescent_OutputIdeal (hOutputIdeal := hOutputIdeal)
    ∧ quiescent_OutputReferenceIdeal (hOutputReferenceIdeal := hOutputReferenceIdeal)
    ∧ preserves_Experts_ExpertsIdeal
    ∧ algebraic_ExpertsIdeal_ExpertsReferenceIdeal_on_active (hExpertsIdeal := hExpertsIdeal) (hExpertsReferenceIdeal := hExpertsReferenceIdeal) (hPre_tables := hPre_tables) (hOn_active := hOn_active)
    ∧ preserves_Projections_ProjectionsIdeal
    ∧ algebraic_ProjectionsIdeal_ProjectionsReferenceIdeal (hProjectionsIdeal := hProjectionsIdeal) (hProjectionsReferenceIdeal := hProjectionsReferenceIdeal)
    ∧ preserves_Output_OutputIdeal
    ∧ algebraic_OutputIdeal_OutputReferenceIdeal (hOutputIdeal := hOutputIdeal) (hOutputReferenceIdeal := hOutputReferenceIdeal)
-- ==== On_active.lean ====
abbrev S304 : Shape := ⟨1, ![304]⟩
abbrev S1 : Shape := ⟨1, ![1]⟩
abbrev S77824x1024 : Shape := ⟨2, ![77824, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  shapeCasts_S1_S_ : S1.ShapeCasts S_
  bcast_S_S77824x1024 : S_.BroadcastsInDim S77824x1024 (![] : Fin 0 → Fin S77824x1024.rank)

variable [Facts]

def fn {F : FTy → Type} [FloatOps F] (main_arg0 : IVec S304 32) (main_arg1 : IVec S1 32) (main_arg2 : FVec F S77824x1024 .f32) (main_arg3 : FVec F S32x1024x2048 .f32) (main_arg4 : FVec F S32x1x2048 .f32) (main_arg5 : FVec F S32x1024x1024 .f32) (main_arg6 : FVec F S32x1x1024 .f32) : IVec S77824x1024 1 :=
  let main_v0 : IVec S77824x1024 32 := iotaInDim S77824x1024 32 0
  let main_v1 : IVec S_ 32 := shapeCast S_ main_arg1 shapeCasts_S1_S_
  let main_c : IVec S_ 32 := constantI S_ 32 256#32
  let main_v2 : IVec S_ 32 := muli main_v1 main_c
  let main_v3 : IVec S77824x1024 32 := broadcastInDim S77824x1024 ![] bcast_S_S77824x1024 main_v2
  let main_v4 : IVec S77824x1024 1 := cmpi .slt main_v0 main_v3
  main_v4
-- ==== Pre_tables.lean ====
abbrev S304 : Shape := ⟨1, ![304]⟩
abbrev S1 : Shape := ⟨1, ![1]⟩
abbrev S77824x1024 : Shape := ⟨2, ![77824, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S304 : S_.BroadcastsInDim S304 (![] : Fin 0 → Fin S304.rank)
  reducesTo_S304_S_d0 : S304.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S304 32) (main_arg1 : IVec S1 32) (main_arg2 : FVec F S77824x1024 .f32) (main_arg3 : FVec F S32x1024x2048 .f32) (main_arg4 : FVec F S32x1x2048 .f32) (main_arg5 : FVec F S32x1024x1024 .f32) (main_arg6 : FVec F S32x1x1024 .f32) : IVec S_ 1 :=
  let main_c : IVec S_ 32 := constantI S_ 32 0#32
  let main_v0 : IVec S304 32 := broadcastInDim S304 ![] bcast_S_S304 main_c
  let main_v1 : IVec S304 1 := cmpi .sge main_arg0 main_v0
  let main_c_0 : IVec S_ 32 := constantI S_ 32 32#32
  let main_v2 : IVec S304 32 := broadcastInDim S304 ![] bcast_S_S304 main_c_0
  let main_v3 : IVec S304 1 := cmpi .slt main_arg0 main_v2
  let main_v4 : IVec S304 1 := andi main_v1 main_v3
  let main_c_1 : IVec S_ 1 := constantI S_ 1 1#1
  let main_v5 : IVec S_ 1 := (fun x v => Host.reduce IntOp.andi x v reducesTo_S304_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 304#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Experts.lean ====
abbrev S304 : Shape := ⟨1, ![304]⟩
abbrev S1 : Shape := ⟨1, ![1]⟩
abbrev S77824x1024 : Shape := ⟨2, ![77824, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S77824x1024, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S77824x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S304, .i32⟩
  | .local _ .smem, ⟨1, _⟩ => ⟨S1, .i32⟩
  | _, _ => ⟨S77824x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![304], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let c1_i32 : BitVec 32 := 1#32
  let v7 : BitVec 32 := Scalar.subi arg0 c1_i32
  let c0_i32_1 : BitVec 32 := 0#32
  let v8 : BitVec 32 := Scalar.maxsi v7 c0_i32_1
  let v9 : Index := Scalar.indexCast v8
  ![v9.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S304 : Shape := ⟨1, ![304]⟩
abbrev S1 : Shape := ⟨1, ![1]⟩
abbrev S77824x1024 : Shape := ⟨2, ![77824, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S304x256x1024 : Shape := ⟨3, ![304, 256, 1024]⟩
abbrev S_ : Shape := ⟨0, ![]⟩
abbrev S304x1 : Shape := ⟨2, ![304, 1]⟩
abbrev S304x1024x2048 : Shape := ⟨3, ![304, 1024, 2048]⟩
abbrev S304x256x2048 : Shape := ⟨3, ![304, 256, 2048]⟩
abbrev S304x1x2048 : Shape := ⟨3, ![304, 1, 2048]⟩
abbrev S304x1024x1024 : Shape := ⟨3, ![304, 1024, 1024]⟩
abbrev S304x1x1024 : Shape := ⟨3, ![304, 1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S304, .i32⟩
  | .hbm, ⟨1, _⟩ => ⟨S1, .i32⟩
  | .hbm, ⟨2, _⟩ => ⟨S77824x1024, .f32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S304x256x1024, .f32⟩
  | .hbm, ⟨8, _⟩ => ⟨S_, .i32⟩
  | .hbm, ⟨9, _⟩ => ⟨S304, .i32⟩
  | .hbm, ⟨10, _⟩ => ⟨S304, .i1⟩
  | .hbm, ⟨11, _⟩ => ⟨S_, .i32⟩
  | .hbm, ⟨12, _⟩ => ⟨S304, .i32⟩
  | .hbm, ⟨13, _⟩ => ⟨S304, .i32⟩
  | .hbm, ⟨14, _⟩ => ⟨S304, .i32⟩
  | .hbm, ⟨15, _⟩ => ⟨S304x1, .i32⟩
  | .hbm, ⟨16, _⟩ => ⟨S304x1024x2048, .f32⟩
  | .hbm, ⟨17, _⟩ => ⟨S304x256x2048, .f32⟩
  | .hbm, ⟨18, _⟩ => ⟨S_, .i32⟩
  | .hbm, ⟨19, _⟩ => ⟨S304, .i32⟩
  | .hbm, ⟨20, _⟩ => ⟨S304, .i1⟩
  | .hbm, ⟨21, _⟩ => ⟨S_, .i32⟩
  | .hbm, ⟨22, _⟩ => ⟨S304, .i32⟩
  | .hbm, ⟨23, _⟩ => ⟨S304, .i32⟩
  | .hbm, ⟨24, _⟩ => ⟨S304, .i32⟩
  | .hbm, ⟨25, _⟩ => ⟨S304x1, .i32⟩
  | .hbm, ⟨26, _⟩ => ⟨S304x1x2048, .f32⟩
  | .hbm, ⟨27, _⟩ => ⟨S304x256x2048, .f32⟩
  | .hbm, ⟨28, _⟩ => ⟨S304x256x2048, .f32⟩
  | .hbm, ⟨29, _⟩ => ⟨S304x256x1024, .f32⟩
  | .hbm, ⟨30, _⟩ => ⟨S304x256x1024, .f32⟩
  | .hbm, ⟨31, _⟩ => ⟨S_, .f32⟩
  | .hbm, ⟨32, _⟩ => ⟨S304x256x1024, .f32⟩
  | .hbm, ⟨33, _⟩ => ⟨S304x256x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S304x256x1024, .f32⟩
  | .hbm, ⟨38, _⟩ => ⟨S304x256x1024, .f32⟩
  | .hbm, ⟨39, _⟩ => ⟨S_, .f32⟩
  | .hbm, ⟨40, _⟩ => ⟨S304x256x1024, .f32⟩
  | .hbm, ⟨41, _⟩ => ⟨S304x256x1024, .f32⟩
  | .hbm, ⟨42, _⟩ => ⟨S_, .f32⟩
  | .hbm, ⟨43, _⟩ => ⟨S304x256x1024, .f32⟩
  | .hbm, ⟨44, _⟩ => ⟨S304x256x1024, .f32⟩
  | .hbm, ⟨45, _⟩ => ⟨S_, .f32⟩
  | .hbm, ⟨46, _⟩ => ⟨S304x256x1024, .f32⟩
  | .hbm, ⟨47, _⟩ => ⟨S304x256x1024, .f32⟩
  | .hbm, ⟨48, _⟩ => ⟨S304x256x1024, .f32⟩
  | .hbm, ⟨49, _⟩ => ⟨S304x256x1024, .f32⟩
  | .hbm, ⟨50, _⟩ => ⟨S_, .f32⟩
  | .hbm, ⟨51, _⟩ => ⟨S304x256x1024, .f32⟩
  | .hbm, ⟨52, _⟩ => ⟨S304x256x1024, .f32⟩
  | .hbm, ⟨53, _⟩ => ⟨S_, .f32⟩
  | .hbm, ⟨54, _⟩ => ⟨S304x256x1024, .f32⟩
  | .hbm, ⟨55, _⟩ => ⟨S304x256x1024, .f32⟩
  | .hbm, ⟨56, _⟩ => ⟨S304x256x1024, .f32⟩
  | .hbm, ⟨57, _⟩ => ⟨S304x256x1024, .f32⟩
  | .hbm, ⟨58, _⟩ => ⟨S_, .i32⟩
  | .hbm, ⟨59, _⟩ => ⟨S304, .i32⟩
  | .hbm, ⟨60, _⟩ => ⟨S304, .i1⟩
  | .hbm, ⟨61, _⟩ => ⟨S_, .i32⟩
  | .hbm, ⟨62, _⟩ => ⟨S304, .i32⟩
  | .hbm, ⟨63, _⟩ => ⟨S304, .i32⟩
  | .hbm, ⟨64, _⟩ => ⟨S304, .i32⟩
  | .hbm, ⟨65, _⟩ => ⟨S304x1, .i32⟩
  | .hbm, ⟨66, _⟩ => ⟨S304x1024x1024, .f32⟩
  | .hbm, ⟨67, _⟩ => ⟨S304x256x1024, .f32⟩
  | .hbm, ⟨68, _⟩ => ⟨S_, .i32⟩
  | .hbm, ⟨69, _⟩ => ⟨S304, .i32⟩
  | .hbm, ⟨70, _⟩ => ⟨S304, .i1⟩
  | .hbm, ⟨71, _⟩ => ⟨S_, .i32⟩
  | .hbm, ⟨72, _⟩ => ⟨S304, .i32⟩
  | .hbm, ⟨73, _⟩ => ⟨S304, .i32⟩
  | .hbm, ⟨74, _⟩ => ⟨S304, .i32⟩
  | .hbm, ⟨75, _⟩ => ⟨S304x1, .i32⟩
  | .hbm, ⟨76, _⟩ => ⟨S304x1x1024, .f32⟩
  | .hbm, ⟨77, _⟩ => ⟨S304x256x1024, .f32⟩
  | .hbm, ⟨78, _⟩ => ⟨S304x256x1024, .f32⟩
  | .hbm, ⟨79, _⟩ => ⟨S77824x1024, .f32⟩
  | _, _ => ⟨S304, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_c_10 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_c_12 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]
-- ==== Projections.lean ====
abbrev S2x8192x1024 : Shape := ⟨3, ![2, 8192, 1024]⟩
abbrev S128x8x1024 : Shape := ⟨3, ![128, 8, 1024]⟩
abbrev S1x1024 : Shape := ⟨2, ![1, 1024]⟩
abbrev S1x1024x2832 : Shape := ⟨3, ![1, 1024, 2832]⟩
abbrev S1x8 : Shape := ⟨2, ![1, 8]⟩
abbrev S16384x1024 : Shape := ⟨2, ![16384, 1024]⟩
abbrev S1024x1024 : Shape := ⟨2, ![1024, 1024]⟩
abbrev S1024x2832 : Shape := ⟨2, ![1024, 2832]⟩
abbrev S1024x512 : Shape := ⟨2, ![1024, 512]⟩
abbrev S1024x128 : Shape := ⟨2, ![1024, 128]⟩
abbrev S1024x2304 : Shape := ⟨2, ![1024, 2304]⟩
abbrev S512x1024 : Shape := ⟨2, ![512, 1024]⟩
abbrev S1024x8 : Shape := ⟨2, ![1024, 8]⟩
abbrev S1024x16 : Shape := ⟨2, ![1024, 16]⟩
abbrev S_ : Shape := ⟨0, ![]⟩
abbrev S16x1024 : Shape := ⟨2, ![16, 1024]⟩
abbrev S8 : Shape := ⟨1, ![8]⟩
abbrev S16 : Shape := ⟨1, ![16]⟩
abbrev S128 : Shape := ⟨1, ![128]⟩
abbrev S1x128 : Shape := ⟨2, ![1, 128]⟩
abbrev S16x1 : Shape := ⟨2, ![16, 1]⟩
abbrev S1024 : Shape := ⟨1, ![1024]⟩
abbrev S17408x512 : Shape := ⟨2, ![17408, 512]⟩
abbrev S17408x128 : Shape := ⟨2, ![17408, 128]⟩
abbrev S512x17408 : Shape := ⟨2, ![512, 17408]⟩
abbrev S16x17408 : Shape := ⟨2, ![16, 17408]⟩
abbrev S512x512 : Shape := ⟨2, ![512, 512]⟩
abbrev S512x128 : Shape := ⟨2, ![512, 128]⟩
abbrev S16x512 : Shape := ⟨2, ![16, 512]⟩
abbrev S512 : Shape := ⟨1, ![512]⟩
abbrev S512x1 : Shape := ⟨2, ![512, 1]⟩
abbrev S512x2304 : Shape := ⟨2, ![512, 2304]⟩

abbrev nBuf : Space → Nat
  | .hbm => 48
  | .vmem => 29
  | .smem => 0
  | _ => 0

abbrev bufTy : (tb : Table) → Fin (tcTables nBuf tb) → BufTy
  | .hbm, ⟨0, _⟩ => ⟨S2x8192x1024, .f32⟩
  | .hbm, ⟨1, _⟩ => ⟨S128x8x1024, .f32⟩
  | .hbm, ⟨2, _⟩ => ⟨S1x1024, .f32⟩
  | .hbm, ⟨3, _⟩ => ⟨S1x1024x2832, .f32⟩
  | .hbm, ⟨4, _⟩ => ⟨S1x8, .f32⟩
  | .hbm, ⟨5, _⟩ => ⟨S1x8, .f32⟩
  | .hbm, ⟨6, _⟩ => ⟨S16384x1024, .f32⟩
  | .hbm, ⟨7, _⟩ => ⟨S1024x1024, .f32⟩
  | .hbm, ⟨8, _⟩ => ⟨S1024x2832, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x128, .f32⟩
  | .hbm, ⟨14, _⟩ => ⟨S1024x128, .f32⟩
  | .hbm, ⟨15, _⟩ => ⟨S1024x2304, .f32⟩
  | .hbm, ⟨16, _⟩ => ⟨S1024x2304, .bf16⟩
  | .hbm, ⟨17, _⟩ => ⟨S1024x512, .f32⟩
  | .hbm, ⟨18, _⟩ => ⟨S512x1024, .f32⟩
  | .hbm, ⟨19, _⟩ => ⟨S512x1024, .bf16⟩
  | .hbm, ⟨20, _⟩ => ⟨S1024x8, .f32⟩
  | .hbm, ⟨21, _⟩ => ⟨S1024x8, .f32⟩
  | .hbm, ⟨22, _⟩ => ⟨S1024x16, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x128, .bf16⟩
  | .hbm, ⟨27, _⟩ => ⟨S16x1024, .f32⟩
  | .hbm, ⟨28, _⟩ => ⟨S16x1024, .bf16⟩
  | .hbm, ⟨29, _⟩ => ⟨S8, .f32⟩
  | .hbm, ⟨30, _⟩ => ⟨S8, .f32⟩
  | .hbm, ⟨31, _⟩ => ⟨S16, .f32⟩
  | .hbm, ⟨32, _⟩ => ⟨S_, .i32⟩
  | .hbm, ⟨33, _⟩ => ⟨S_, .f32⟩
  | .hbm, ⟨34, _⟩ => ⟨S128, .f32⟩
  | .hbm, ⟨35, _⟩ => ⟨S1x128, .f32⟩
  | .hbm, ⟨36, _⟩ => ⟨S16x1, .f32⟩
  | .hbm, ⟨37, _⟩ => ⟨S1024, .f32⟩
  | .hbm, ⟨38, _⟩ => ⟨S1x1024, .f32⟩
  | .hbm, ⟨39, _⟩ => ⟨S17408x512, .f32⟩
  | .hbm, ⟨40, _⟩ => ⟨S17408x512, .f32⟩
  | .hbm, ⟨41, _⟩ => ⟨S17408x512, .f32⟩
  | .hbm, ⟨42, _⟩ => ⟨S17408x512, .f32⟩
  | .hbm, ⟨43, _⟩ => ⟨S17408x128, .f32⟩
  | .hbm, ⟨44, _⟩ => ⟨S17408x128, .f32⟩
  | .hbm, ⟨45, _⟩ => ⟨S512x17408, .f32⟩
  | .hbm, ⟨46, _⟩ => ⟨S17408x128, .f32⟩
  | .hbm, ⟨47, _⟩ => ⟨S16x17408, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x2304, .bf16⟩
  | .local _ .vmem, ⟨6, _⟩ => ⟨S512x1024, .bf16⟩
  | .local _ .vmem, ⟨7, _⟩ => ⟨S1024x128, .bf16⟩
  | .local _ .vmem, ⟨8, _⟩ => ⟨S16x1024, .bf16⟩
  | .local _ .vmem, ⟨9, _⟩ => ⟨S1x128, .f32⟩
  | .local _ .vmem, ⟨10, _⟩ => ⟨S16x1, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x512, .f32⟩
  | .local _ .vmem, ⟨24, _⟩ => ⟨S512x512, .f32⟩
  | .local _ .vmem, ⟨25, _⟩ => ⟨S512x128, .f32⟩
  | .local _ .vmem, ⟨26, _⟩ => ⟨S512x128, .f32⟩
  | .local _ .vmem, ⟨27, _⟩ => ⟨S16x512, .f32⟩
  | .local _ .vmem, ⟨28, _⟩ => ⟨S16x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_0 : Ref sig .tc := ⟨.hbm, 32, rfl⟩
abbrev main_call1_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v29_2 : Ref sig .tc := ⟨.hbm, 41, rfl⟩
abbrev main_v29_3 : Ref sig .tc := ⟨.hbm, 42, rfl⟩
abbrev main_v29_4 : Ref sig .tc := ⟨.hbm, 43, rfl⟩
abbrev main_v29_5 : Ref sig .tc := ⟨.hbm, 44, rfl⟩
abbrev main_v29_6 : Ref sig .tc := ⟨.hbm, 45, rfl⟩
abbrev main_v29_7 : Ref sig .tc := ⟨.hbm, 46, rfl⟩
abbrev main_v29_8 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ProjectionsReferenceIdeal.lean ====
abbrev S2x8192x1024 : Shape := ⟨3, ![2, 8192, 1024]⟩
abbrev S128x8x1024 : Shape := ⟨3, ![128, 8, 1024]⟩
abbrev S1x1024 : Shape := ⟨2, ![1, 1024]⟩
abbrev S1x1024x2832 : Shape := ⟨3, ![1, 1024, 2832]⟩
abbrev S1x8 : Shape := ⟨2, ![1, 8]⟩
abbrev S16384x1024 : Shape := ⟨2, ![16384, 1024]⟩
abbrev S1024x1024 : Shape := ⟨2, ![1024, 1024]⟩
abbrev S17408x1024 : Shape := ⟨2, ![17408, 1024]⟩
abbrev S1024 : Shape := ⟨1, ![1024]⟩
abbrev S_ : Shape := ⟨0, ![]⟩
abbrev S17408 : Shape := ⟨1, ![17408]⟩
abbrev S17408x1 : Shape := ⟨2, ![17408, 1]⟩
abbrev S1024x2832 : Shape := ⟨2, ![1024, 2832]⟩
abbrev S17408x2832 : Shape := ⟨2, ![17408, 2832]⟩
abbrev S17408x512 : Shape := ⟨2, ![17408, 512]⟩
abbrev S17408x8 : Shape := ⟨2, ![17408, 8]⟩
abbrev S17408x128 : Shape := ⟨2, ![17408, 128]⟩
abbrev S8 : Shape := ⟨1, ![8]⟩
abbrev S17408x112 : Shape := ⟨2, ![17408, 112]⟩
abbrev S512x17408 : Shape := ⟨2, ![512, 17408]⟩
abbrev S17408x16 : Shape := ⟨2, ![17408, 16]⟩
abbrev S16x17408 : Shape := ⟨2, ![16, 17408]⟩

abbrev nBuf : Space → Nat
  | .hbm => 86
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S128x8x1024, .f32⟩
  | .hbm, ⟨2, _⟩ => ⟨S1x1024, .f32⟩
  | .hbm, ⟨3, _⟩ => ⟨S1x1024x2832, .f32⟩
  | .hbm, ⟨4, _⟩ => ⟨S1x8, .f32⟩
  | .hbm, ⟨5, _⟩ => ⟨S1x8, .f32⟩
  | .hbm, ⟨6, _⟩ => ⟨S16384x1024, .f32⟩
  | .hbm, ⟨7, _⟩ => ⟨S1024x1024, .f32⟩
  | .hbm, ⟨8, _⟩ => ⟨S17408x1024, .f32⟩
  | .hbm, ⟨9, _⟩ => ⟨S1024, .f32⟩
  | .hbm, ⟨10, _⟩ => ⟨S17408x1024, .f32⟩
  | .hbm, ⟨11, _⟩ => ⟨S_, .f32⟩
  | .hbm, ⟨12, _⟩ => ⟨S17408, .f32⟩
  | .hbm, ⟨13, _⟩ => ⟨S17408x1, .f32⟩
  | .hbm, ⟨14, _⟩ => ⟨S_, .f32⟩
  | .hbm, ⟨15, _⟩ => ⟨S17408x1, .f32⟩
  | .hbm, ⟨16, _⟩ => ⟨S17408x1, .f32⟩
  | .hbm, ⟨17, _⟩ => ⟨S_, .f32⟩
  | .hbm, ⟨18, _⟩ => ⟨S17408x1, .f32⟩
  | .hbm, ⟨19, _⟩ => ⟨S17408x1, .f32⟩
  | .hbm, ⟨20, _⟩ => ⟨S17408x1, .f32⟩
  | .hbm, ⟨21, _⟩ => ⟨S17408x1024, .f32⟩
  | .hbm, ⟨22, _⟩ => ⟨S17408x1024, .f32⟩
  | .hbm, ⟨23, _⟩ => ⟨S1x1024, .f32⟩
  | .hbm, ⟨24, _⟩ => ⟨S17408x1024, .f32⟩
  | .hbm, ⟨25, _⟩ => ⟨S17408x1024, .f32⟩
  | .hbm, ⟨26, _⟩ => ⟨S1024x2832, .f32⟩
  | .hbm, ⟨27, _⟩ => ⟨S17408x2832, .f32⟩
  | .hbm, ⟨28, _⟩ => ⟨S17408x512, .f32⟩
  | .hbm, ⟨29, _⟩ => ⟨S17408x512, .f32⟩
  | .hbm, ⟨30, _⟩ => ⟨S17408x512, .f32⟩
  | .hbm, ⟨31, _⟩ => ⟨S17408x512, .f32⟩
  | .hbm, ⟨32, _⟩ => ⟨S17408x8, .f32⟩
  | .hbm, ⟨33, _⟩ => ⟨S17408x8, .f32⟩
  | .hbm, ⟨34, _⟩ => ⟨S17408x512, .f32⟩
  | .hbm, ⟨35, _⟩ => ⟨S17408x128, .f32⟩
  | .hbm, ⟨36, _⟩ => ⟨S17408x128, .f32⟩
  | .hbm, ⟨37, _⟩ => ⟨S8, .f32⟩
  | .hbm, ⟨38, _⟩ => ⟨S1x8, .f32⟩
  | .hbm, ⟨39, _⟩ => ⟨S17408x8, .f32⟩
  | .hbm, ⟨40, _⟩ => ⟨S17408x8, .f32⟩
  | .hbm, ⟨41, _⟩ => ⟨S8, .f32⟩
  | .hbm, ⟨42, _⟩ => ⟨S1x8, .f32⟩
  | .hbm, ⟨43, _⟩ => ⟨S17408x8, .f32⟩
  | .hbm, ⟨44, _⟩ => ⟨S17408x8, .f32⟩
  | .hbm, ⟨45, _⟩ => ⟨S17408x8, .f32⟩
  | .hbm, ⟨46, _⟩ => ⟨S_, .f32⟩
  | .hbm, ⟨47, _⟩ => ⟨S17408x8, .f32⟩
  | .hbm, ⟨48, _⟩ => ⟨S17408x8, .f32⟩
  | .hbm, ⟨49, _⟩ => ⟨S17408x8, .f32⟩
  | .hbm, ⟨50, _⟩ => ⟨S17408x8, .f32⟩
  | .hbm, ⟨51, _⟩ => ⟨S17408x8, .i1⟩
  | .hbm, ⟨52, _⟩ => ⟨S17408x8, .f32⟩
  | .hbm, ⟨53, _⟩ => ⟨S17408x8, .f32⟩
  | .hbm, ⟨54, _⟩ => ⟨S17408x8, .f32⟩
  | .hbm, ⟨55, _⟩ => ⟨S17408x8, .f32⟩
  | .hbm, ⟨56, _⟩ => ⟨S17408x8, .f32⟩
  | .hbm, ⟨57, _⟩ => ⟨S17408x8, .f32⟩
  | .hbm, ⟨58, _⟩ => ⟨S17408x8, .f32⟩
  | .hbm, ⟨59, _⟩ => ⟨S17408x8, .f32⟩
  | .hbm, ⟨60, _⟩ => ⟨S17408x8, .f32⟩
  | .hbm, ⟨61, _⟩ => ⟨S_, .f32⟩
  | .hbm, ⟨62, _⟩ => ⟨S17408x112, .f32⟩
  | .hbm, ⟨63, _⟩ => ⟨S17408x112, .f32⟩
  | .hbm, ⟨64, _⟩ => ⟨S_, .f32⟩
  | .hbm, ⟨65, _⟩ => ⟨S17408x112, .f32⟩
  | .hbm, ⟨66, _⟩ => ⟨S17408x112, .f32⟩
  | .hbm, ⟨67, _⟩ => ⟨S17408x112, .f32⟩
  | .hbm, ⟨68, _⟩ => ⟨S17408x112, .f32⟩
  | .hbm, ⟨69, _⟩ => ⟨S17408x112, .i1⟩
  | .hbm, ⟨70, _⟩ => ⟨S17408x112, .f32⟩
  | .hbm, ⟨71, _⟩ => ⟨S17408x112, .f32⟩
  | .hbm, ⟨72, _⟩ => ⟨S17408x112, .f32⟩
  | .hbm, ⟨73, _⟩ => ⟨S17408x112, .f32⟩
  | .hbm, ⟨74, _⟩ => ⟨S17408x112, .f32⟩
  | .hbm, ⟨75, _⟩ => ⟨S17408x112, .f32⟩
  | .hbm, ⟨76, _⟩ => ⟨S17408x112, .f32⟩
  | .hbm, ⟨77, _⟩ => ⟨S17408x112, .f32⟩
  | .hbm, ⟨78, _⟩ => ⟨S17408x112, .f32⟩
  | .hbm, ⟨79, _⟩ => ⟨S_, .f32⟩
  | .hbm, ⟨80, _⟩ => ⟨S17408x512, .f32⟩
  | .hbm, ⟨81, _⟩ => ⟨S17408x512, .f32⟩
  | .hbm, ⟨82, _⟩ => ⟨S512x17408, .f32⟩
  | .hbm, ⟨83, _⟩ => ⟨S17408x128, .f32⟩
  | .hbm, ⟨84, _⟩ => ⟨S17408x16, .f32⟩
  | .hbm, ⟨85, _⟩ => ⟨S16x17408, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_call0_v0 : Ref sig .tc := ⟨.hbm, 45, rfl⟩
abbrev main_call0_call0_cst : Ref sig .tc := ⟨.hbm, 46, rfl⟩
abbrev main_call0_call0_v0 : Ref sig .tc := ⟨.hbm, 47, rfl⟩
abbrev main_call0_call0_v1 : Ref sig .tc := ⟨.hbm, 48, rfl⟩
abbrev main_call0_call0_v2 : Ref sig .tc := ⟨.hbm, 49, rfl⟩
abbrev main_call0_call0_v3 : Ref sig .tc := ⟨.hbm, 50, rfl⟩
abbrev main_call0_call0_v4 : Ref sig .tc := ⟨.hbm, 51, rfl⟩
abbrev main_call0_call0_v5 : Ref sig .tc := ⟨.hbm, 52, rfl⟩
abbrev main_call0_call0_v6 : Ref sig .tc := ⟨.hbm, 53, rfl⟩
abbrev main_call0_call0_v7 : Ref sig .tc := ⟨.hbm, 54, rfl⟩
abbrev main_call0_call0_v8 : Ref sig .tc := ⟨.hbm, 55, rfl⟩
abbrev main_call0_call0_v9 : Ref sig .tc := ⟨.hbm, 56, rfl⟩
abbrev main_call0_call0_v10 : Ref sig .tc := ⟨.hbm, 57, rfl⟩
abbrev main_call0_call0_v11 : Ref sig .tc := ⟨.hbm, 58, rfl⟩
abbrev main_call0_v1 : Ref sig .tc := ⟨.hbm, 59, rfl⟩
abbrev main_v36 : Ref sig .tc := ⟨.hbm, 60, rfl⟩
abbrev main_cst_2 : Ref sig .tc := ⟨.hbm, 61, rfl⟩
abbrev main_v37 : Ref sig .tc := ⟨.hbm, 62, rfl⟩
abbrev main_call1_v0 : Ref sig .tc := ⟨.hbm, 63, rfl⟩
abbrev main_call1_call0_cst : Ref sig .tc := ⟨.hbm, 64, rfl⟩
abbrev main_call1_call0_v0 : Ref sig .tc := ⟨.hbm, 65, rfl⟩
abbrev main_call1_call0_v1 : Ref sig .tc := ⟨.hbm, 66, rfl⟩
abbrev main_call1_call0_v2 : Ref sig .tc := ⟨.hbm, 67, rfl⟩
abbrev main_call1_call0_v3 : Ref sig .tc := ⟨.hbm, 68, rfl⟩
abbrev main_call1_call0_v4 : Ref sig .tc := ⟨.hbm, 69, rfl⟩
abbrev main_call1_call0_v5 : Ref sig .tc := ⟨.hbm, 70, rfl⟩
abbrev main_call1_call0_v6 : Ref sig .tc := ⟨.hbm, 71, rfl⟩
abbrev main_call1_call0_v7 : Ref sig .tc := ⟨.hbm, 72, rfl⟩
abbrev main_call1_call0_v8 : Ref sig .tc := ⟨.hbm, 73, rfl⟩
abbrev main_call1_call0_v9 : Ref sig .tc := ⟨.hbm, 74, rfl⟩
abbrev main_call1_call0_v10 : Ref sig .tc := ⟨.hbm, 75, rfl⟩
abbrev main_call1_call0_v11 : Ref sig .tc := ⟨.hbm, 76, rfl⟩
abbrev main_call1_v1 : Ref sig .tc := ⟨.hbm, 77, rfl⟩
abbrev main_v38 : Ref sig .tc := ⟨.hbm, 78, rfl⟩
abbrev main_cst_3 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩

abbrev nD : Nat := 1
abbrev τ : Topo := Topo.v7x

variable {F : FTy → Type} [FloatOps F]
-- ==== Output.lean ====
abbrev S2x8192x1024 : Shape := ⟨3, ![2, 8192, 1024]⟩
abbrev S128x8x1024 : Shape := ⟨3, ![128, 8, 1024]⟩
abbrev S16384x512 : Shape := ⟨2, ![16384, 512]⟩
abbrev S1024x512 : Shape := ⟨2, ![1024, 512]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S1024x1024 : Shape := ⟨2, ![1024, 1024]⟩
abbrev S16384x1024 : Shape := ⟨2, ![16384, 1024]⟩
abbrev S512x1024 : Shape := ⟨2, ![512, 1024]⟩
abbrev S1024 : Shape := ⟨1, ![1024]⟩
abbrev S1024x32 : Shape := ⟨2, ![1024, 32]⟩
abbrev S32x1024 : Shape := ⟨2, ![32, 1024]⟩
abbrev S32 : Shape := ⟨1, ![32]⟩
abbrev S32x1 : Shape := ⟨2, ![32, 1]⟩
abbrev S17408x1024 : Shape := ⟨2, ![17408, 1024]⟩
abbrev S8x17408 : Shape := ⟨2, ![8, 17408]⟩
abbrev S17408x8 : Shape := ⟨2, ![17408, 8]⟩
abbrev S32x128 : Shape := ⟨2, ![32, 128]⟩
abbrev S512x512 : Shape := ⟨2, ![512, 512]⟩
abbrev S8x512 : Shape := ⟨2, ![8, 512]⟩
abbrev S512x8 : Shape := ⟨2, ![512, 8]⟩
abbrev S512 : Shape := ⟨1, ![512]⟩
abbrev S512x1 : Shape := ⟨2, ![512, 1]⟩
abbrev S32x512 : Shape := ⟨2, ![32, 512]⟩
abbrev S1x512 : Shape := ⟨2, ![1, 512]⟩
abbrev S4x512 : Shape := ⟨2, ![4, 512]⟩

abbrev nBuf : Space → Nat
  | .hbm => 27
  | .vmem => 27
  | .smem => 0
  | _ => 0

abbrev bufTy : (tb : Table) → Fin (tcTables nBuf tb) → BufTy
  | .hbm, ⟨0, _⟩ => ⟨S2x8192x1024, .f32⟩
  | .hbm, ⟨1, _⟩ => ⟨S128x8x1024, .f32⟩
  | .hbm, ⟨2, _⟩ => ⟨S16384x512, .bf16⟩
  | .hbm, ⟨3, _⟩ => ⟨S16384x512, .bf16⟩
  | .hbm, ⟨4, _⟩ => ⟨S1024x512, .f32⟩
  | .hbm, ⟨5, _⟩ => ⟨S1024x512, .f32⟩
  | .hbm, ⟨6, _⟩ => ⟨S1x1024x1024, .f32⟩
  | .hbm, ⟨7, _⟩ => ⟨S1x1024, .f32⟩
  | .hbm, ⟨8, _⟩ => ⟨S1x1024x32, .f32⟩
  | .hbm, ⟨9, _⟩ => ⟨S1x32, .f32⟩
  | .hbm, ⟨10, _⟩ => ⟨S1024x1024, .f32⟩
  | .hbm, ⟨11, _⟩ => ⟨S1024x1024, .bf16⟩
  | .hbm, ⟨12, _⟩ => ⟨S16384x1024, .f32⟩
  | .hbm, ⟨13, _⟩ => ⟨S1024x1024, .f32⟩
  | .hbm, ⟨14, _⟩ => ⟨S512x1024, .bf16⟩
  | .hbm, ⟨15, _⟩ => ⟨S512x1024, .bf16⟩
  | .hbm, ⟨16, _⟩ => ⟨S1024, .f32⟩
  | .hbm, ⟨17, _⟩ => ⟨S1x1024, .f32⟩
  | .hbm, ⟨18, _⟩ => ⟨S1024x32, .f32⟩
  | .hbm, ⟨19, _⟩ => ⟨S32x1024, .f32⟩
  | .hbm, ⟨20, _⟩ => ⟨S32, .f32⟩
  | .hbm, ⟨21, _⟩ => ⟨S32x1, .f32⟩
  | .hbm, ⟨22, _⟩ => ⟨S17408x1024, .f32⟩
  | .hbm, ⟨23, _⟩ => ⟨S17408x1024, .f32⟩
  | .hbm, ⟨24, _⟩ => ⟨S8x17408, .i32⟩
  | .hbm, ⟨25, _⟩ => ⟨S17408x8, .f32⟩
  | .hbm, ⟨26, _⟩ => ⟨S32x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S32x1024, .f32⟩
  | .local _ .vmem, ⟨16, _⟩ => ⟨S32x1, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S8x512, .i32⟩
  | .local _ .vmem, ⟨22, _⟩ => ⟨S8x512, .i32⟩
  | .local _ .vmem, ⟨23, _⟩ => ⟨S512x8, .f32⟩
  | .local _ .vmem, ⟨24, _⟩ => ⟨S512x8, .f32⟩
  | .local _ .vmem, ⟨25, _⟩ => ⟨S32x128, .f32⟩
  | .local _ .vmem, ⟨26, _⟩ => ⟨S32x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S32x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== OutputReferenceIdeal.lean ====
abbrev S2x8192x1024 : Shape := ⟨3, ![2, 8192, 1024]⟩
abbrev S128x8x1024 : Shape := ⟨3, ![128, 8, 1024]⟩
abbrev S16384x512 : Shape := ⟨2, ![16384, 512]⟩
abbrev S1024x512 : Shape := ⟨2, ![1024, 512]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S16384x1024 : Shape := ⟨2, ![16384, 1024]⟩
abbrev S1024x1024 : Shape := ⟨2, ![1024, 1024]⟩
abbrev S17408x1024 : Shape := ⟨2, ![17408, 1024]⟩
abbrev S17408x512 : Shape := ⟨2, ![17408, 512]⟩
abbrev S1024 : Shape := ⟨1, ![1024]⟩
abbrev S_ : Shape := ⟨0, ![]⟩
abbrev S17408 : Shape := ⟨1, ![17408]⟩
abbrev S17408x1 : Shape := ⟨2, ![17408, 1]⟩

abbrev nBuf : Space → Nat
  | .hbm => 38
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S128x8x1024, .f32⟩
  | .hbm, ⟨2, _⟩ => ⟨S16384x512, .bf16⟩
  | .hbm, ⟨3, _⟩ => ⟨S16384x512, .bf16⟩
  | .hbm, ⟨4, _⟩ => ⟨S1024x512, .f32⟩
  | .hbm, ⟨5, _⟩ => ⟨S1024x512, .f32⟩
  | .hbm, ⟨6, _⟩ => ⟨S1x1024x1024, .f32⟩
  | .hbm, ⟨7, _⟩ => ⟨S1x1024, .f32⟩
  | .hbm, ⟨8, _⟩ => ⟨S1x1024x32, .f32⟩
  | .hbm, ⟨9, _⟩ => ⟨S1x32, .f32⟩
  | .hbm, ⟨10, _⟩ => ⟨S16384x1024, .f32⟩
  | .hbm, ⟨11, _⟩ => ⟨S1024x1024, .f32⟩
  | .hbm, ⟨12, _⟩ => ⟨S17408x1024, .f32⟩
  | .hbm, ⟨13, _⟩ => ⟨S16384x512, .f32⟩
  | .hbm, ⟨14, _⟩ => ⟨S17408x512, .f32⟩
  | .hbm, ⟨15, _⟩ => ⟨S16384x512, .f32⟩
  | .hbm, ⟨16, _⟩ => ⟨S17408x512, .f32⟩
  | .hbm, ⟨17, _⟩ => ⟨S17408x1024, .f32⟩
  | .hbm, ⟨18, _⟩ => ⟨S1024x1024, .f32⟩
  | .hbm, ⟨19, _⟩ => ⟨S17408x1024, .f32⟩
  | .hbm, ⟨20, _⟩ => ⟨S17408x1024, .f32⟩
  | .hbm, ⟨21, _⟩ => ⟨S1024, .f32⟩
  | .hbm, ⟨22, _⟩ => ⟨S17408x1024, .f32⟩
  | .hbm, ⟨23, _⟩ => ⟨S_, .f32⟩
  | .hbm, ⟨24, _⟩ => ⟨S17408, .f32⟩
  | .hbm, ⟨25, _⟩ => ⟨S17408x1, .f32⟩
  | .hbm, ⟨26, _⟩ => ⟨S_, .f32⟩
  | .hbm, ⟨27, _⟩ => ⟨S17408x1, .f32⟩
  | .hbm, ⟨28, _⟩ => ⟨S17408x1, .f32⟩
  | .hbm, ⟨29, _⟩ => ⟨S_, .f32⟩
  | .hbm, ⟨30, _⟩ => ⟨S17408x1, .f32⟩
  | .hbm, ⟨31, _⟩ => ⟨S17408x1, .f32⟩
  | .hbm, ⟨32, _⟩ => ⟨S17408x1, .f32⟩
  | .hbm, ⟨33, _⟩ => ⟨S17408x1024, .f32⟩
  | .hbm, ⟨34, _⟩ => ⟨S17408x1024, .f32⟩
  | .hbm, ⟨35, _⟩ => ⟨S1x1024, .f32⟩
  | .hbm, ⟨36, _⟩ => ⟨S17408x1024, .f32⟩
  | .hbm, ⟨37, _⟩ => ⟨S17408x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Proof.Run.lean ====
/- The experts' kernel, run once at one point of its grid: from the blocks of the point's windows, the two tables and the
   scratch buffers, along each of its three paths. A block is active or not (the second table says how many are), and an
   active block's expert is the one of the block before or another one, whose weights are then copied to the scratch buffers.
   Everything is said of any tables and over any float values. -/
module

public import proofs.«01_k».proof.Defs
public import proofs.«01_k».proof.Proof.Gen.ExpertsIdeal
public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.ExpertsIdeal.Run

open Cert.ExpertsIdeal
open Cert.ExpertsIdeal.Gen hiding inb_S1_S1_0 numel1_S1 k0_off2_inb k0_off3_inb
open Cert.ExpertsIdeal.Facts₀ Cert.ExpertsIdeal.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables and the two scratch buffers, whole. -/
abbrev tabE : Memref sig .tc .smem S304 .i32 := Memref.whole main_arg0
abbrev tabN : Memref sig .tc .smem S1 .i32 := Memref.whole main_arg1
abbrev scrG : Memref sig .tc .vmem S1024x2048 .bf16 := Memref.whole cc0_scratch0
abbrev scrD : Memref sig .tc .vmem S1024x1024 .bf16 := Memref.whole cc0_scratch1

/-- The word of the second table, as the body reads it. -/
abbrev wordN (T1 : S1.Idx → Elt F .i32) : BitVec 32 :=
  View.readAt (Elt F) tabN.view (Rect.unit (s := S1) ![0] S1.size inb_S1_S1_0).toLoadRect T1
    (Shape.Idx.first (numel1_S1.symm ▸ Nat.one_pos))

/-- Whether a point is the first, or its expert another one than that of the point before, as the body computes it. -/
abbrev other (i : grid0.Coords) (T0 : S304.Idx → Elt F .i32) : BitVec 1 :=
  Scalar.cmpi .ne (Scalar.extui (Scalar.ori (Scalar.cmpi .eq (BitVec.ofNat 32 (i 0).val) 0#32)
    (Scalar.cmpi .ne
      (View.readAt (Elt F) tabE.view (Rect.unit (s := S304) (k0_off2 i) S1.size (k0_off2_inb i)).toLoadRect T0
        (Shape.Idx.first (numel1_S1.symm ▸ Nat.one_pos)))
      (View.readAt (Elt F) tabE.view (Rect.unit (s := S304) (k0_off3 i) S1.size (k0_off3_inb i)).toLoadRect T0
        (Shape.Idx.first (numel1_S1.symm ▸ Nat.one_pos)))))) 0#32

variable (c : Dev nD) (i : grid0.Coords)
  (arg3 : Memref sig .tc .vmem S256x1024 .f32) (harg3 : arg3.IsWhole)
  (arg4 : Memref sig .tc .vmem S1x1024x2048 .f32) (harg4 : arg4.IsWhole)
  (arg5 : Memref sig .tc .vmem S1x1x2048 .f32) (harg5 : arg5.IsWhole)
  (arg6 : Memref sig .tc .vmem S1x1024x1024 .f32) (harg6 : arg6.IsWhole)
  (arg7 : Memref sig .tc .vmem S1x1x1024 .f32) (harg7 : arg7.IsWhole)
  (arg8 : Memref sig .tc .vmem S256x1024 .f32) (harg8 : arg8.IsWhole)
  (T0 : S304.Idx → Elt F .i32) (T1 : S1.Idx → Elt F .i32)
  (x0 : S256x1024.Idx → Elt F .f32) (x1 : S1x1024x2048.Idx → Elt F .f32) (x2 : S1x1x2048.Idx → Elt F .f32)
  (x3 : S1x1024x1024.Idx → Elt F .f32) (x4 : S1x1x1024.Idx → Elt F .f32)

/-- What the body only reads: the five blocks at `x0`, …, `x4` and its halves of the tables. -/
abbrev held : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (tabE.view.loc (c : Thread nD τ) ↦{fullShare.right} T0)
    ∗ (tabN.view.loc (c : Thread nD τ) ↦{fullShare.right} T1))

/-- The body at the point. -/
abbrev body : Prog (TpuEff nD τ sig (Elt F) Λ₀ .tc) PUnit :=
  cc0_moe_experts i tabE (Memref.isWhole_whole _) tabN (Memref.isWhole_whole _) arg3 harg3 arg4 harg4 arg5 harg5 arg6 harg6
    arg7 harg7 arg8 harg8 scrG (Memref.isWhole_whole _) scrD (Memref.isWhole_whole _)

set_option backward.proofsInPublic true in
set_option maxHeartbeats 8000000 in
/-- An active block of another expert: what the body stores to the output, and what it leaves in the scratch buffers. -/
def runNew (h1 : k0_cond1 i (wordN T1) = 1#1) (hc : other i T0 = 1#1) :
    Σ' (out0 : List (View.Piece (Elt F) S256x1024 .f32)) (out1 : Buf (Elt F) ((c : Thread nD τ).loc cc0_scratch0)),
      { out2 : Buf (Elt F) ((c : Thread nD τ).loc cc0_scratch1) //
      ∀ (a0 : Buf (Elt F) ((c : Thread nD τ).loc cc0_scratch0)) (a1 : Buf (Elt F) ((c : Thread nD τ).loc cc0_scratch1))
        (K : PUnit → sProp 𝕄),
        iprop(held c arg3 arg4 arg5 arg6 arg7 T0 T1 x0 x1 x2 x3 x4
          ∗ (∃ d, owns (c : Thread nD τ) arg8 fullShare d)
          ∗ (scrG.view.loc (c : Thread nD τ) ↦{fullShare} a0)
          ∗ (scrD.view.loc (c : Thread nD τ) ↦{fullShare} a1)
          ∗ (iprop(held c arg3 arg4 arg5 arg6 arg7 T0 T1 x0 x1 x2 x3 x4
              ∗ (∃ f, arg8.view.loc (c : Thread nD τ) ↦[arg8.view.set]{fullShare} arg8.view.writes (Elt F) f out0)
              ∗ (scrG.view.loc (c : Thread nD τ) ↦{fullShare} out1)
              ∗ (scrD.view.loc (c : Thread nD τ) ↦{fullShare} out2)) -∗ K ⟨⟩))
          ⊢ wp frame (wpE (defs₀ (F := F)) Variants.none c none) Set.univ
              (body i arg3 harg3 arg4 harg4 arg5 harg5 arg6 harg6 arg7 harg7 arg8 harg8) K } :=
  ⟨_, _, _, fun (a0 : Buf (Elt F) ((c : Thread nD τ).loc cc0_scratch0)) (a1 : Buf (Elt F) ((c : Thread nD τ).loc cc0_scratch1)) K => by
    unfold owns held body
    rw [cc0_moe_experts_eq_skeleton]; unfold cc0_moe_experts_skel
    iintro ⟨⟨H0, H1, H2, H3, H4, HT0, HT1⟩, ⟨%d5, %f5, -, HO5⟩, HS0, HS1, Hk⟩
    have hS0 : scrG.IsWhole := Memref.isWhole_whole _
    have hS1 : scrD.IsWhole := Memref.isWhole_whole _
    have hT0 : tabE.IsWhole := Memref.isWhole_whole _
    have hT1 : tabN.IsWhole := Memref.isWhole_whole _
    sl_exec! (disch := first | (guard_target = k0_cond1 _ _ = _; exact h1) | (guard_target = Scalar.cmpi = _; exact hc))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    isplitl [HS0]; · iexact HS0
    iexact HS1⟩

set_option backward.proofsInPublic true in
set_option maxHeartbeats 8000000 in
/-- An active block of the same expert: the scratch buffers are read and stay. -/
def runSame (a0 : Buf (Elt F) ((c : Thread nD τ).loc cc0_scratch0)) (a1 : Buf (Elt F) ((c : Thread nD τ).loc cc0_scratch1))
    (h1 : k0_cond1 i (wordN T1) = 1#1) (hc : ¬ other i T0 = 1#1) :
    { out0 : List (View.Piece (Elt F) S256x1024 .f32) //
      ∀ (K : PUnit → sProp 𝕄),
        iprop(held c arg3 arg4 arg5 arg6 arg7 T0 T1 x0 x1 x2 x3 x4
          ∗ (∃ d, owns (c : Thread nD τ) arg8 fullShare d)
          ∗ (scrG.view.loc (c : Thread nD τ) ↦{fullShare} a0)
          ∗ (scrD.view.loc (c : Thread nD τ) ↦{fullShare} a1)
          ∗ (iprop(held c arg3 arg4 arg5 arg6 arg7 T0 T1 x0 x1 x2 x3 x4
              ∗ (∃ f, arg8.view.loc (c : Thread nD τ) ↦[arg8.view.set]{fullShare} arg8.view.writes (Elt F) f out0)
              ∗ (scrG.view.loc (c : Thread nD τ) ↦{fullShare} a0)
              ∗ (scrD.view.loc (c : Thread nD τ) ↦{fullShare} a1)) -∗ K ⟨⟩))
          ⊢ wp frame (wpE (defs₀ (F := F)) Variants.none c none) Set.univ
              (body i arg3 harg3 arg4 harg4 arg5 harg5 arg6 harg6 arg7 harg7 arg8 harg8) K } :=
  ⟨_, fun K => by
    unfold owns held body
    rw [cc0_moe_experts_eq_skeleton]; unfold cc0_moe_experts_skel
    iintro ⟨⟨H0, H1, H2, H3, H4, HT0, HT1⟩, ⟨%d5, %f5, -, HO5⟩, HS0, HS1, Hk⟩
    have hS0 : scrG.IsWhole := Memref.isWhole_whole _
    have hS1 : scrD.IsWhole := Memref.isWhole_whole _
    have hT0 : tabE.IsWhole := Memref.isWhole_whole _
    have hT1 : tabN.IsWhole := Memref.isWhole_whole _
    sl_exec! (disch := first | (guard_target = k0_cond1 _ _ = _; exact h1) | (guard_target = ¬(Scalar.cmpi = _); exact hc))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    isplitl [HS0]; · iexact HS0
    iexact HS1⟩

/-- A block that is not active: the body does nothing. -/
theorem run_idle (h1 : ¬ k0_cond1 i (wordN T1) = 1#1) (K : PUnit → sProp 𝕄) :
    iprop((tabN.view.loc (c : Thread nD τ) ↦{fullShare.right} T1)
        ∗ ((tabN.view.loc (c : Thread nD τ) ↦{fullShare.right} T1) -∗ K ⟨⟩))
      ⊢ wp frame (wpE (defs₀ (F := F)) Variants.none c none) Set.univ
          (body i arg3 harg3 arg4 harg4 arg5 harg5 arg6 harg6 arg7 harg7 arg8 harg8) K := by
  unfold body
  rw [cc0_moe_experts_eq_skeleton]; unfold cc0_moe_experts_skel
  iintro ⟨HT1, Hk⟩
  have hT1 : tabN.IsWhole := Memref.isWhole_whole _
  sl_exec! (disch := first | (guard_target = ¬(k0_cond1 _ _ = _); exact h1))
  sl_step
  iapply Hk
  iexact HT1

/-- A block's result, from its rows `x0`, its expert's weights as the scratch buffers hold them and the expert's biases. -/
def ffn (W : FVec F S1024x2048 .bf16) (D : FVec F S1024x1024 .bf16) (x0 : S256x1024.Idx → Elt F .f32)
    (x2 : S1x1x2048.Idx → Elt F .f32) (x4 : S1x1x1024.Idx → Elt F .f32) : FVec F S256x1024 .f32 :=
  k0_pay1 (k0_pay5 x0 W x2) (k0_pay6 x0 W x2) D x4

omit [FloatOps F] in
/-- A rectangle of the buffer's own sizes is the whole buffer. -/
theorem unit_emb {s : Shape} {off : Fin s.rank → ℕ} (inb : ∀ a, off a + s.size a ≤ s.size a) (y : s.Idx) :
    (Rect.unit off s.size inb).emb y = y :=
  funext fun a => Fin.ext (by
    show off a + 1 * (y a).val = (y a).val
    have := inb a; omega)

omit [FloatOps F] in
/-- One store of the whole buffer leaves what it stores. -/
theorem read_stored {sig' : RefSig} {κ : Kind} {sp : Space} {s : Shape} {e : EltTy} (v : View sig' κ sp s e) (f : v.ty.Contents (Elt F))
    {off : Fin s.rank → ℕ} (inb : ∀ a, off a + s.size a ≤ s.size a) (w : s.Idx → Elt F e) :
    v.read (Elt F) (v.writes (Elt F) f [⟨Rect.unit off s.size inb, w⟩]) = w := by
  funext y
  have h := View.read_writes_cons_emb v f (Rect.unit off s.size inb) w [] y
  rwa [unit_emb] at h

omit [FloatOps F] in
/-- A load of the whole of a buffer stored whole reads what was stored. -/
theorem readCov_stored {sig' : RefSig} {κ : Kind} {sp : Space} {s : Shape} {e : EltTy} (v : View sig' κ sp s e)
    {off off' : Fin s.rank → ℕ} (inb : ∀ a, off a + s.size a ≤ s.size a) (inb' : ∀ a, off' a + s.size a ≤ s.size a)
    [∀ e, Nonempty (Elt F e)] (w : s.Idx → Elt F e) :
    v.readCov [⟨Rect.unit off s.size inb, w⟩] (Rect.unit off' s.size inb').toLoadRect = w :=
  (View.readAt_full v _ inb').trans (read_stored v _ inb w)

theorem new_result (h1 : k0_cond1 i (wordN T1) = 1#1) (hc : other i T0 = 1#1) (f : arg8.view.ty.Contents (Elt F)) :
    arg8.view.read (Elt F) (arg8.view.writes (Elt F) f (runNew c i arg3 harg3 arg4 harg4 arg5 harg5 arg6 harg6 arg7 harg7 arg8 harg8
      T0 T1 x0 x1 x2 x3 x4 h1 hc).1) = ffn (k0_pay2 x1) (k0_pay3 x3) x0 x2 x4 := by
  show arg8.view.read (Elt F) (arg8.view.writes (Elt F) f (runNew.sl.HO5_1 arg3 arg4 arg5 arg6 arg7 x0 x1 x2 x3 x4)) = _
  have e3 := View.readAt_rep_full arg3.view x0 Facts₀.inb_S256x1024_S256x1024_0_0
  have e4 := View.readAt_rep_full arg4.view x1 Facts₀.inb_S1x1024x2048_S1x1024x2048_0_0_0
  have e5 := View.readAt_rep_full arg5.view x2 Facts₀.inb_S1x1x2048_S1x1x2048_0_0_0
  have e6 := View.readAt_rep_full arg6.view x3 Facts₀.inb_S1x1024x1024_S1x1024x1024_0_0_0
  have e7 := View.readAt_rep_full arg7.view x4 Facts₀.inb_S1x1x1024_S1x1x1024_0_0_0
  have h17 : runNew.sl.v17 arg4 x1 = k0_pay2 x1 := by
    unfold runNew.sl.v17 runNew.sl.HS0_1; rw [readCov_stored, e4]
  have h45 : runNew.sl.v45 arg6 x3 = k0_pay3 x3 := by
    unfold runNew.sl.v45 runNew.sl.HS1_1; rw [readCov_stored, e6]
  unfold runNew.sl.HO5_1
  rw [read_stored]
  unfold runNew.sl.r_3 runNew.sl.r_4 ffn
  rw [h17, h45, e3, e5, e7]

omit [FloatOps F] in
/-- A buffer whose view is all of it holds, after one store of the whole, what was stored. -/
theorem stored_eq_rep {sig' : RefSig} {κ : Kind} {sp : Space} {s : Shape} {e : EltTy} [∀ e, Nonempty (Elt F e)]
    (v : View sig' κ sp s e) (hv : ∀ j, ∃ y, v.emb y = j) (f : v.ty.Contents (Elt F))
    {off : Fin s.rank → ℕ} (inb : ∀ a, off a + s.size a ≤ s.size a) (w : s.Idx → Elt F e) :
    v.writes (Elt F) f [⟨Rect.unit off s.size inb, w⟩] = v.rep w :=
  v.contents_ext (fun y => by rw [read_stored, View.read_rep]) fun j hj => (hv j).elim fun y hy => absurd hy (hj y)

theorem new_gate (h1 : k0_cond1 i (wordN T1) = 1#1) (hc : other i T0 = 1#1) :
    (runNew c i arg3 harg3 arg4 harg4 arg5 harg5 arg6 harg6 arg7 harg7 arg8 harg8
      T0 T1 x0 x1 x2 x3 x4 h1 hc).2.1 = scrG.view.rep (k0_pay2 x1) := by
  have h : runNew.sl.HS0_1 arg4 x1 = [⟨Rect.unit ![0, 0] S1024x2048.size Facts₀.inb_S1024x2048_S1024x2048_0_0, k0_pay2 x1⟩] := by
    unfold runNew.sl.HS0_1
    rw [View.readAt_rep_full arg4.view x1 Facts₀.inb_S1x1024x2048_S1x1024x2048_0_0_0]
  unfold runNew; dsimp only
  rw [h]
  exact stored_eq_rep (View.whole cc0_scratch0) (fun j => ⟨j, rfl⟩) _ Facts₀.inb_S1024x2048_S1024x2048_0_0 _

theorem new_down (h1 : k0_cond1 i (wordN T1) = 1#1) (hc : other i T0 = 1#1) :
    (runNew c i arg3 harg3 arg4 harg4 arg5 harg5 arg6 harg6 arg7 harg7 arg8 harg8
      T0 T1 x0 x1 x2 x3 x4 h1 hc).2.2.1 = scrD.view.rep (k0_pay3 x3) := by
  have h : runNew.sl.HS1_1 arg6 x3 = [⟨Rect.unit ![0, 0] S1024x1024.size Facts₀.inb_S1024x1024_S1024x1024_0_0, k0_pay3 x3⟩] := by
    unfold runNew.sl.HS1_1
    rw [View.readAt_rep_full arg6.view x3 Facts₀.inb_S1x1024x1024_S1x1024x1024_0_0_0]
  unfold runNew; dsimp only
  rw [h]
  exact stored_eq_rep (View.whole cc0_scratch1) (fun j => ⟨j, rfl⟩) _ Facts₀.inb_S1024x1024_S1024x1024_0_0 _

theorem same_result (W : FVec F S1024x2048 .bf16) (D : FVec F S1024x1024 .bf16)
    (h1 : k0_cond1 i (wordN T1) = 1#1) (hc : ¬ other i T0 = 1#1) (f : arg8.view.ty.Contents (Elt F)) :
    arg8.view.read (Elt F) (arg8.view.writes (Elt F) f (runSame c i arg3 harg3 arg4 harg4 arg5 harg5 arg6 harg6 arg7 harg7 arg8 harg8
      T0 T1 x0 x1 x2 x3 x4 (scrG.view.rep W) (scrD.view.rep D) h1 hc).1) = ffn W D x0 x2 x4 := by
  show arg8.view.read (Elt F) (arg8.view.writes (Elt F) f
    (runSame.sl.HO5_1 c arg3 arg5 arg7 x0 x2 x4 (scrG.view.rep W) (scrD.view.rep D))) = _
  unfold runSame.sl.HO5_1
  rw [read_stored]
  unfold runSame.sl.r_3 runSame.sl.r_4 ffn
  rw [View.readAt_rep_full arg3.view x0 Facts₀.inb_S256x1024_S256x1024_0_0,
    View.readAt_rep_full arg5.view x2 Facts₀.inb_S1x1x2048_S1x1x2048_0_0_0,
    View.readAt_rep_full arg7.view x4 Facts₀.inb_S1x1x1024_S1x1x1024_0_0_0,
    View.readAt_rep_full (Val := Elt F) scrD.view D Facts₀.inb_S1024x1024_S1024x1024_0_0,
    View.readAt_rep_full (Val := Elt F) scrG.view W Facts₀.inb_S1024x2048_S1024x2048_0_0]

/-- The first path, with what it leaves written out. -/
theorem new_wp (h1 : k0_cond1 i (wordN T1) = 1#1) (hc : other i T0 = 1#1)
    (a0 : Buf (Elt F) ((c : Thread nD τ).loc cc0_scratch0)) (a1 : Buf (Elt F) ((c : Thread nD τ).loc cc0_scratch1)) (K : PUnit → sProp 𝕄) :
    iprop(held c arg3 arg4 arg5 arg6 arg7 T0 T1 x0 x1 x2 x3 x4
        ∗ (∃ d, owns (c : Thread nD τ) arg8 fullShare d)
        ∗ (scrG.view.loc (c : Thread nD τ) ↦{fullShare} a0)
        ∗ (scrD.view.loc (c : Thread nD τ) ↦{fullShare} a1)
        ∗ (iprop(held c arg3 arg4 arg5 arg6 arg7 T0 T1 x0 x1 x2 x3 x4
            ∗ owns (c : Thread nD τ) arg8 fullShare (ffn (k0_pay2 x1) (k0_pay3 x3) x0 x2 x4)
            ∗ (scrG.view.loc (c : Thread nD τ) ↦{fullShare} scrG.view.rep (k0_pay2 x1))
            ∗ (scrD.view.loc (c : Thread nD τ) ↦{fullShare} scrD.view.rep (k0_pay3 x3))) -∗ K ⟨⟩))
      ⊢ wp frame (wpE (defs₀ (F := F)) Variants.none c none) Set.univ
          (body i arg3 harg3 arg4 harg4 arg5 harg5 arg6 harg6 arg7 harg7 arg8 harg8) K := by
  have hg := new_gate c i arg3 harg3 arg4 harg4 arg5 harg5 arg6 harg6 arg7 harg7 arg8 harg8 T0 T1 x0 x1 x2 x3 x4 h1 hc
  have hd := new_down c i arg3 harg3 arg4 harg4 arg5 harg5 arg6 harg6 arg7 harg7 arg8 harg8 T0 T1 x0 x1 x2 x3 x4 h1 hc
  have hr := new_result c i arg3 harg3 arg4 harg4 arg5 harg5 arg6 harg6 arg7 harg7 arg8 harg8 T0 T1 x0 x1 x2 x3 x4 h1 hc
  generalize runNew c i arg3 harg3 arg4 harg4 arg5 harg5 arg6 harg6 arg7 harg7 arg8 harg8 T0 T1 x0 x1 x2 x3 x4 h1 hc = R at hg hd hr
  obtain ⟨o0, o1, o2, hw⟩ := R
  dsimp only at hg hd hr
  subst hg hd
  iintro ⟨Hr, H5, HS0, HS1, Hk⟩
  iapply (hw a0 a1 K)
  isplitl [Hr]; · iexact Hr
  isplitl [H5]; · iexact H5
  isplitl [HS0]; · iexact HS0
  isplitl [HS1]; · iexact HS1
  iintro ⟨Hr, ⟨%f, H5⟩, HS0, HS1⟩
  iapply Hk
  isplitl [Hr]; · iexact Hr
  isplitl [H5]
  · unfold owns; iexists _; isplitr; swap
    · iexact H5
    · ipureintro; exact hr f
  isplitl [HS0]; · iexact HS0
  iexact HS1

/-- The second path, from scratch buffers that hold the weights `W` and `D`. -/
theorem same_wp (W : FVec F S1024x2048 .bf16) (D : FVec F S1024x1024 .bf16)
    (h1 : k0_cond1 i (wordN T1) = 1#1) (hc : ¬ other i T0 = 1#1) (K : PUnit → sProp 𝕄) :
    iprop(held c arg3 arg4 arg5 arg6 arg7 T0 T1 x0 x1 x2 x3 x4
        ∗ (∃ d, owns (c : Thread nD τ) arg8 fullShare d)
        ∗ (scrG.view.loc (c : Thread nD τ) ↦{fullShare} scrG.view.rep W)
        ∗ (scrD.view.loc (c : Thread nD τ) ↦{fullShare} scrD.view.rep D)
        ∗ (iprop(held c arg3 arg4 arg5 arg6 arg7 T0 T1 x0 x1 x2 x3 x4
            ∗ owns (c : Thread nD τ) arg8 fullShare (ffn W D x0 x2 x4)
            ∗ (scrG.view.loc (c : Thread nD τ) ↦{fullShare} scrG.view.rep W)
            ∗ (scrD.view.loc (c : Thread nD τ) ↦{fullShare} scrD.view.rep D)) -∗ K ⟨⟩))
      ⊢ wp frame (wpE (defs₀ (F := F)) Variants.none c none) Set.univ
          (body i arg3 harg3 arg4 harg4 arg5 harg5 arg6 harg6 arg7 harg7 arg8 harg8) K := by
  have hr := same_result c i arg3 harg3 arg4 harg4 arg5 harg5 arg6 harg6 arg7 harg7 arg8 harg8 T0 T1 x0 x1 x2 x3 x4 W D h1 hc
  generalize runSame c i arg3 harg3 arg4 harg4 arg5 harg5 arg6 harg6 arg7 harg7 arg8 harg8 T0 T1 x0 x1 x2 x3 x4
    (scrG.view.rep W) (scrD.view.rep D) h1 hc = R at hr
  obtain ⟨o0, hw⟩ := R
  dsimp only at hr
  iintro ⟨Hr, H5, HS0, HS1, Hk⟩
  iapply (hw K)
  isplitl [Hr]; · iexact Hr
  isplitl [H5]; · iexact H5
  isplitl [HS0]; · iexact HS0
  isplitl [HS1]; · iexact HS1
  iintro ⟨Hr, ⟨%f, H5⟩, HS0, HS1⟩
  iapply Hk
  isplitl [Hr]; · iexact Hr
  isplitl [H5]
  · unfold owns; iexists _; isplitr; swap
    · iexact H5
    · ipureintro; exact hr f
  isplitl [HS0]; · iexact HS0
  iexact HS1

end Cert.ExpertsIdeal.Run

end
-- ==== Proof.Tables.lean ====
/- The schedule of the experts' kernel, as a function of its two tables: which block each window reads or writes at each
   point of the grid, and which path the body takes there. The tables are any whose entries are in range. -/
module

public import proofs.«01_k».proof.Proof.Run
public import Idealize.ShloMosaic.Lib.Pipeline.ValueKit

@[expose] public section

set_option maxRecDepth 16384

noncomputable section

namespace Cert.ExpertsIdeal.Run

open Cert.ExpertsIdeal
open Cert.ExpertsIdeal.Gen hiding inb_S1_S1_0 numel1_S1 k0_off1_inb k0_off2_inb k0_off3_inb
open Cert.ExpertsIdeal.Facts₀ Cert.ExpertsIdeal.Facts
open Idealize.ShloMosaic
open Idealize.ShloMosaic.TcCoe

/-- The tables, in range: each block's expert is one of the 32, and at least one and at most all 304 blocks are active. -/
structure Tab where
  e : S304.Idx → BitVec 32
  n : S1.Idx → BitVec 32
  e_lt : ∀ x, (e x).toNat < 32
  n_pos : ∀ x, 1 ≤ (n x).toNat
  n_le : ∀ x, (n x).toNat ≤ 304

namespace Tab

variable (T : Tab)

/-- How many blocks are active. -/
def na : ℕ := (T.n (ix1 0)).toNat

/-- The expert of a block. -/
def expert (t : Fin 304) : ℕ := (T.e (ix1 t)).toNat

theorem na_pos : 1 ≤ T.na := T.n_pos _
theorem na_le : T.na ≤ 304 := T.n_le _
theorem expert_lt (t : Fin 304) : T.expert t < 32 := T.e_lt _

end Tab

variable {F : FTy → Type} [FloatOps F]

set_option backward.proofsInPublic true in
/-- The tables' contents. -/
def pf (T : Tab) : pre0.Contents (Elt F) := fun | ⟨0, _⟩ => T.e | ⟨1, _⟩ => T.n | ⟨_ + 2, h⟩ => absurd h (by simp)

theorem one_idx (x y : S1.Idx) : x = y := funext fun a => match a with
  | ⟨0, h⟩ => Fin.ext (by
    have hx : (x ⟨0, h⟩).val < 1 := (x ⟨0, h⟩).isLt
    have hy : (y ⟨0, h⟩).val < 1 := (y ⟨0, h⟩).isLt
    omega)

theorem i_lt (i : grid0.Coords) : (i 0).val < 304 := (i 0).isLt

theorem toNat_i (i : grid0.Coords) : (BitVec.ofNat 32 (i 0).val).toNat = (i 0).val := by
  have := i_lt i
  rw [BitVec.toNat_ofNat, Nat.mod_eq_of_lt (by omega)]

/-- Words below 2 ^ 31 compare as numbers. -/
theorem slt_iff (a b : BitVec 32) (ha : a.toNat < 2 ^ 31) (hb : b.toNat < 2 ^ 31) : a.slt b = decide (a.toNat < b.toNat) := by
  rw [BitVec.slt, BitVec.toInt_eq_toNat_of_lt (by omega), BitVec.toInt_eq_toNat_of_lt (by omega)]
  simp

/-- The block of rows that a point works on. -/
theorem rows_index (T : Tab) (i : grid0.Coords) :
    (Scalar.minsi (BitVec.ofNat 32 (i 0).val) (Scalar.subi (T.n (ix1 0)) 1#32)).toNat = min (i 0).val (T.na - 1) := by
  have h1 := T.na_pos
  have h2 := T.na_le
  have h3 := i_lt i
  have h4 := toNat_i i
  have h5 : (Scalar.subi (T.n (ix1 0)) 1#32).toNat = T.na - 1 := by
    show (T.n (ix1 0) - 1#32).toNat = _
    unfold Tab.na at *
    rw [BitVec.toNat_sub_of_le (by simp [BitVec.le_def]; omega)]; rfl
  unfold Scalar.minsi IntOp.minsi
  rw [slt_iff _ _ (by omega) (by omega)]
  by_cases h : (i 0).val < T.na - 1
  · rw [if_pos (by simp only [decide_eq_true_eq]; omega), h4]; omega
  · rw [if_neg (by simp only [decide_eq_true_eq]; omega), h5]; omega

theorem transform_0 (T : Tab) (i : grid0.Coords) :
    cc0_transform_0 (F := F) inb_S1_S1_0 numel1_S1 (pf T) i = ![min (i 0).val (T.na - 1), 0] := by
  unfold cc0_transform_0
  have h : (pf (F := F) T).at 1 (Rect.unit (s := S1) ![0] S1.size inb_S1_S1_0) numel1_S1 = T.n (ix1 0) := congrArg T.n (one_idx _ _)
  simp only [h, rows_index]
  rfl

theorem transform_5 (T : Tab) (i : grid0.Coords) :
    cc0_transform_5 (F := F) inb_S1_S1_0 numel1_S1 (pf T) i = ![min (i 0).val (T.na - 1), 0] :=
  transform_0 T i

/-- The table's word at a point. -/
theorem word_e (T : Tab) (i : grid0.Coords) (inb : ∀ a, (![(Scalar.indexCast (BitVec.ofNat 32 (i 0).val)).toNat] : Fin 1 → ℕ) a + S1.size a ≤ S304.size a) :
    (pf (F := F) T).at 0 (Rect.unit (s := S304) ![(Scalar.indexCast (BitVec.ofNat 32 (i 0).val)).toNat] S1.size inb) numel1_S1
      = T.e (ix1 (i 0)) :=
  congrArg T.e (funext fun a => by
    fin_cases a
    refine Fin.ext ?_
    show (BitVec.ofNat 32 (i 0).val).toNat + 1 * 0 = (i 0).val
    have := toNat_i i
    omega)

theorem transform_1 (T : Tab) (i : grid0.Coords) :
    cc0_transform_1 (F := F) k0_off1_inb numel1_S1 (pf T) i = ![T.expert (i 0), 0, 0] :=
  congrArg (fun w : BitVec 32 => (![w.toNat, 0, 0] : Fin 3 → ℕ)) (word_e (F := F) T i (k0_off1_inb i))

theorem transform_2 (T : Tab) (i : grid0.Coords) :
    cc0_transform_2 (F := F) k0_off1_inb numel1_S1 (pf T) i = ![T.expert (i 0), 0, 0] := transform_1 T i
theorem transform_3 (T : Tab) (i : grid0.Coords) :
    cc0_transform_3 (F := F) k0_off1_inb numel1_S1 (pf T) i = ![T.expert (i 0), 0, 0] := transform_1 T i
theorem transform_4 (T : Tab) (i : grid0.Coords) :
    cc0_transform_4 (F := F) k0_off1_inb numel1_S1 (pf T) i = ![T.expert (i 0), 0, 0] := transform_1 T i

theorem inside_rows (T : Tab) (i : grid0.Coords) (a : Fin 2) :
    ((![min (i 0).val (T.na - 1), 0] : Fin 2 → ℕ) a + 1) * S256x1024.size a ≤ S77824x1024.size a := by
  have := i_lt i
  match a with
  | ⟨0, _⟩ => show (min (i 0).val (T.na - 1) + 1) * 256 ≤ 77824; omega
  | ⟨1, _⟩ => exact Nat.le_refl _

/-- An expert's block is inside an array of 32 of them. -/
theorem inside_expert (T : Tab) (i : grid0.Coords) (p q : ℕ) (a : Fin 3) :
    ((![T.expert (i 0), 0, 0] : Fin 3 → ℕ) a + 1) * (![1, p, q] : Fin 3 → ℕ) a ≤ (![32, p, q] : Fin 3 → ℕ) a := by
  have := T.expert_lt (i 0)
  match a with
  | ⟨0, _⟩ => show (T.expert (i 0) + 1) * 1 ≤ 32; omega
  | ⟨1, _⟩ => show (0 + 1) * p ≤ p; omega
  | ⟨2, _⟩ => show (0 + 1) * q ≤ q; omega

/-- Every block is inside its array. -/
theorem ok (T : Tab) : ok0 (F := F) (pf T) :=
  ⟨fun i => ⟨fun a => by rw [transform_0]; exact inside_rows T i a, .inl rfl⟩,
   fun i => ⟨fun a => by rw [transform_1]; exact inside_expert T i 1024 2048 a, .inl rfl⟩,
   fun i => ⟨fun a => by rw [transform_2]; exact inside_expert T i 1 2048 a, .inl rfl⟩,
   fun i => ⟨fun a => by rw [transform_3]; exact inside_expert T i 1024 1024 a, .inl rfl⟩,
   fun i => ⟨fun a => by rw [transform_4]; exact inside_expert T i 1 1024 a, .inl rfl⟩,
   fun i => ⟨fun a => by rw [transform_5]; exact inside_rows T i a, .inl rfl⟩⟩

/-- The pipeline at the tables. -/
def adm (T : Tab) : (pcfg0 (F := F)).Adm := ⟨pf T, ok T⟩
variable (F) in
abbrev cfgA (T : Tab) : Pipeline.Cfg sig Λ₀ := cfg0 (F := F) (adm T)

variable (T : Tab)

theorem lt304 (t : Fin (cfgA F T).N) : t.val < 304 := t.isLt

/-- A point's coordinate is the point. -/
theorem crd_val (t : Fin (cfgA F T).N) : ((cfgA F T).grid.coords t 0).val = t.val := by
  have h := Pipeline.Grid.coords_val (G := grid0) t 0 (S := 1) (B := 304) (by decide) rfl
  have := lt304 T t
  exact h.trans (by omega)

/-- The point as a place of the first table. -/
abbrev at304 (t : Fin (cfgA F T).N) : Fin 304 := ⟨t.val, lt304 T t⟩

theorem crd_eq (t : Fin (cfgA F T).N) : (cfgA F T).grid.coords t 0 = at304 T t := Fin.ext (crd_val T t)

theorem index_0 (t : Fin (cfgA F T).N) : ((cfgA F T).win (0 : Fin 6)).index t = ![min t.val (T.na - 1), 0] :=
  (transform_0 (F := F) T _).trans (by rw [crd_val])
theorem index_5 (t : Fin (cfgA F T).N) : ((cfgA F T).win (5 : Fin 6)).index t = ![min t.val (T.na - 1), 0] :=
  (transform_5 (F := F) T _).trans (by rw [crd_val])
theorem index_1 (t : Fin (cfgA F T).N) : ((cfgA F T).win (1 : Fin 6)).index t = ![T.expert (at304 T t), 0, 0] :=
  (transform_1 (F := F) T _).trans (by rw [crd_eq])
theorem index_2 (t : Fin (cfgA F T).N) : ((cfgA F T).win (2 : Fin 6)).index t = ![T.expert (at304 T t), 0, 0] :=
  (transform_2 (F := F) T _).trans (by rw [crd_eq])
theorem index_3 (t : Fin (cfgA F T).N) : ((cfgA F T).win (3 : Fin 6)).index t = ![T.expert (at304 T t), 0, 0] :=
  (transform_3 (F := F) T _).trans (by rw [crd_eq])
theorem index_4 (t : Fin (cfgA F T).N) : ((cfgA F T).win (4 : Fin 6)).index t = ![T.expert (at304 T t), 0, 0] :=
  (transform_4 (F := F) T _).trans (by rw [crd_eq])

/-- A condition's bit, widened and compared with zero. -/
theorem bit_iff (b : BitVec 1) : Scalar.cmpi .ne (Scalar.extui b) 0#32 = 1#1 ↔ b = 1#1 := by
  revert b; decide

/-- The body works on a block just if it is active. -/
theorem cond_iff (i : grid0.Coords) (w : BitVec 32) (hw : w.toNat ≤ 304) : k0_cond1 i w = 1#1 ↔ (i 0).val < w.toNat := by
  have h1 := toNat_i i
  have h2 := i_lt i
  have h3 := slt_iff (BitVec.ofNat 32 (i 0).val) w (by omega) (by omega)
  rw [k0_cond1, bit_iff]
  show BitVec.ofBool _ = 1#1 ↔ _
  rw [h3, h1]
  by_cases h : (i 0).val < w.toNat <;> simp [h]

theorem word_n : wordN (F := F) T.n = T.n (ix1 0) := congrArg T.n (one_idx _ _)

theorem active_iff (t : Fin (cfgA F T).N) : k0_cond1 ((cfgA F T).grid.coords t) (wordN (F := F) T.n) = 1#1 ↔ t.val < T.na := by
  rw [word_n, cond_iff _ _ (T.n_le _), crd_val]; rfl

theorem idle_5 (t : Fin (cfgA F T).N) : (cfgA F T).idle (5 : Fin 6) ((cfgA F T).grid.coords t) = !decide (t.val < T.na) := by
  show (!(k0_cond1 ((cfgA F T).grid.coords t) ((pf (F := F) T).atD 1 ![0]) == 1#1)) = _
  have h : (pf (F := F) T).atD 1 ![0] = wordN (F := F) T.n := by
    unfold Pipeline.Prefetch.Contents.atD
    split
    · exact congrArg T.n (one_idx _ _)
    · next h => exact absurd (show ∀ a, (![0] : Fin 1 → ℕ) a + 1 ≤ S1.size a by decide) h
  have h2 := active_iff (F := F) T t
  rw [h]
  by_cases h3 : t.val < T.na
  · rw [h2.2 h3]; simp [h3]
  · rw [show (k0_cond1 ((cfgA F T).grid.coords t) (wordN (F := F) T.n) == 1#1) = false from beq_eq_false_iff_ne.2 (mt h2.1 h3)]
    simp [h3]

/-- Where the body keeps the weights of the point before, that point is of the same expert. -/
theorem same_expert (t : Fin (cfgA F T).N) (h : ¬ other (F := F) ((cfgA F T).grid.coords t) T.e = 1#1) :
    t.val ≠ 0 ∧ ∀ s : Fin (cfgA F T).N, s.val + 1 = t.val → T.expert (at304 T s) = T.expert (at304 T t) := by
  have h0 := lt304 T t
  have hc := crd_val T t
  have hi := toNat_i ((cfgA F T).grid.coords t)
  unfold other at h
  rw [bit_iff] at h
  have bits : ∀ a b : BitVec 1, ¬ Scalar.ori a b = 1#1 → ¬ a = 1#1 ∧ ¬ b = 1#1 := by decide
  obtain ⟨ha, hb⟩ := bits _ _ h
  have ha : ¬ IntOp.cmpi .eq _ _ = 1#1 := ha
  have hb : ¬ IntOp.cmpi .ne _ _ = 1#1 := hb
  rw [IntOp.cmpi_eq] at ha
  rw [IntOp.cmpi_ne, not_not] at hb
  have hne : t.val ≠ 0 := fun e => ha (by rw [hc, e])
  refine ⟨hne, fun s hs => ?_⟩
  have place : ∀ (x : S304.Idx) (u : Fin 304), (x 0).val = u.val → T.e x = T.e (ix1 u) := fun x u e =>
    congrArg T.e (funext fun a => by fin_cases a; exact Fin.ext e)
  have hs' : (k0_off3 ((cfgA F T).grid.coords t)) 0 = s.val := by
    show (Scalar.maxsi (Scalar.subi (BitVec.ofNat 32 ((cfgA F T).grid.coords t 0).val) 1#32) 0#32).toNat = _
    have h1 : (Scalar.subi (BitVec.ofNat 32 ((cfgA F T).grid.coords t 0).val) 1#32).toNat = s.val := by
      show (BitVec.ofNat 32 ((cfgA F T).grid.coords t 0).val - 1#32).toNat = _
      rw [BitVec.toNat_sub_of_le (by rw [BitVec.le_def, hi, hc]; show 1 ≤ t.val; omega), hi, hc]
      show t.val - 1 = s.val
      omega
    show (IntOp.maxsi _ _).toNat = _
    unfold IntOp.maxsi
    rw [slt_iff _ _ (by decide) (by omega), h1]
    by_cases hz : s.val = 0
    · rw [if_neg (by simp [hz]), hz]; rfl
    · rw [if_pos (by simp; omega), h1]
  unfold Tab.expert
  refine congrArg BitVec.toNat (Eq.symm ?_)
  refine Eq.trans (place _ (at304 T t) ?_).symm (hb.trans (place _ (at304 T s) ?_))
  · show (BitVec.ofNat 32 ((cfgA F T).grid.coords t 0).val).toNat + 1 * 0 = t.val
    omega
  · show (k0_off3 ((cfgA F T).grid.coords t)) 0 + 1 * 0 = s.val
    omega

/-- The result's block is written back at each active point but the last, and at the grid's last point. -/
theorem flush_5 (t : Fin (cfgA F T).N) :
    ((cfgA F T).win (5 : Fin 6)).flush t = true ↔ t.val + 1 < T.na ∨ t.val = 303 := by
  have h1 := T.na_pos
  have h2 := T.na_le
  have h3 := lt304 T t
  show (true && (decide (t.val + 1 = 304) || decide (∃ h : t.val + 1 < 304, ((cfgA F T).win (5 : Fin 6)).index ⟨t.val + 1, h⟩
    ≠ ((cfgA F T).win (5 : Fin 6)).index t))) = true ↔ _
  rw [Bool.true_and, Bool.or_eq_true, decide_eq_true_eq, decide_eq_true_eq]
  constructor
  · rintro (h | ⟨h, h'⟩)
    · exact .inr (by omega)
    · rw [index_5, index_5] at h'
      refine .inl (not_le.1 fun hn => h' ?_)
      simp only
      rw [show min (t.val + 1) (T.na - 1) = min t.val (T.na - 1) by omega]
  · rintro (h | h)
    · refine .inr ⟨by omega, fun e => ?_⟩
      rw [index_5, index_5] at e
      have e0 : min (t.val + 1) (T.na - 1) = min t.val (T.na - 1) := congrFun e 0
      omega
    · exact .inl (by omega)

/-- The result's buffer holds nothing of use before an active point, and what the last active point stored after it. -/
theorem fresh_5 : ∀ n, n < 304 → (cfgA F T).fresh (5 : Fin 6) n = decide (n < T.na)
  | 0, _ => by
    have := T.na_pos
    rw [Pipeline.Cfg.fresh_zero]; simp; omega
  | n + 1, h => by
    have hn : n < (cfgA F T).N := show n < 304 by omega
    rw [Pipeline.Cfg.fresh_succ _ _ n hn, fresh_5 n (by omega), idle_5]
    have hf := flush_5 T ⟨n, hn⟩
    simp only at hf
    simp only [Bool.not_and_self, Bool.or_false]
    rw [Bool.eq_iff_iff, hf, decide_eq_true_eq]
    omega

end Cert.ExpertsIdeal.Run

end
-- ==== Proof.Pre.lean ====
/- What the precondition says of the tables, and what the mask says of a row. -/
module

public import proofs.«01_k».proof.Proof.Tables
public import proofs.«01_k».proof.Proof.Gen.Pre_tables
public import proofs.«01_k».proof.Proof.Gen.On_active
public import Idealize.ShloMosaic.Lib.ReduceAll
public import Idealize.ShloMosaic.Lib.Affine

@[expose] public section

set_option maxRecDepth 16384

noncomputable section

namespace Cert.ExpertsIdeal.Run

open Idealize.ShloMosaic

variable {F : FTy → Type} [FloatOps F]

instance : Subsingleton (Cert.Pre_tables.S_).Idx := ⟨fun x y => funext fun a => a.elim0⟩

/-- A word between two small ones, read as a natural number. -/
theorem nat_of_int (x : BitVec 32) (h : 0 ≤ x.toInt) : (x.toNat : ℤ) = x.toInt := by
  rw [BitVec.toInt_eq_toNat_cond] at h ⊢
  split <;> rename_i hx
  · rfl
  · rw [if_neg hx] at h
    have := x.isLt
    omega

variable (x0 : IVec Cert.Pre_tables.S304 32) (x1 : IVec Cert.Pre_tables.S1 32) (x2 : FVec F Cert.Pre_tables.S77824x1024 .f32)
  (x3 : FVec F Cert.Pre_tables.S32x1024x2048 .f32) (x4 : FVec F Cert.Pre_tables.S32x1x2048 .f32)
  (x5 : FVec F Cert.Pre_tables.S32x1024x1024 .f32) (x6 : FVec F Cert.Pre_tables.S32x1x1024 .f32)

section
variable (h : @Cert.Pre_tables.fn Cert.Pre_tables.Gen.facts F _ x0 x1 x2 x3 x4 x5 x6 = fun _ => 1#1)
include h

/-- Every block's expert is one of the 32. -/
theorem expert_of_pre (i : Cert.Pre_tables.S304.Idx) : (x0 i).toNat < 32 := by
  have h0 := congrFun h (fun a => a.elim0)
  dsimp only [Cert.Pre_tables.fn] at h0
  have hi := Host.reduce_andi_all _ _ _ _ _ (IntOp.andi_eq_one.1 h0).1 i
  obtain ⟨hl, hu⟩ := IntOp.andi_eq_one.1 hi
  have hl := (IntOp.cmpi_sge (x := x0 i) (y := 0#32)).1 hl
  have hu := (IntOp.cmpi_slt (x := x0 i) (y := 32#32)).1 hu
  have hl : (0 : ℤ) ≤ (x0 i).toInt := hl
  have hu : (x0 i).toInt < 32 := hu
  have := nat_of_int _ hl
  omega

/-- The number of active blocks is between 1 and 304. -/
theorem active_of_pre (i : Cert.Pre_tables.S1.Idx) : 1 ≤ (x1 i).toNat ∧ (x1 i).toNat ≤ 304 := by
  have h0 := congrFun h (fun a => a.elim0)
  dsimp only [Cert.Pre_tables.fn] at h0
  have hi := Host.reduce_andi_all _ _ _ _ _ (IntOp.andi_eq_one.1 h0).2 i
  obtain ⟨hl, hu⟩ := IntOp.andi_eq_one.1 hi
  have hl := (IntOp.cmpi_sge (x := x1 i) (y := 1#32)).1 hl
  have hu := (IntOp.cmpi_sle (x := x1 i) (y := 304#32)).1 hu
  have hl : (1 : ℤ) ≤ (x1 i).toInt := hl
  have hu : (x1 i).toInt ≤ 304 := hu
  have := nat_of_int (x1 i) (by omega)
  omega

/-- The tables the precondition admits. -/
def tab : Tab where
  e := x0
  n := x1
  e_lt := expert_of_pre x0 x1 x2 x3 x4 x5 x6 h
  n_pos i := (active_of_pre x0 x1 x2 x3 x4 x5 x6 h i).1
  n_le i := (active_of_pre x0 x1 x2 x3 x4 x5 x6 h i).2

end

/-- The mask's rows are those of the active blocks. -/
theorem row_of_mask (T : Tab) (i : Cert.On_active.S77824x1024.Idx)
    (h : @Cert.On_active.fn Cert.On_active.Gen.facts F _ x0 T.n x2 x3 x4 x5 x6 i = 1#1) : (i 0).val < T.na * 256 := by
  have hi : (i 0).val < 77824 := (i 0).isLt
  have hn := T.na_le
  dsimp only [Cert.On_active.fn] at h
  have hc : IntOp.cmpi .slt (BitVec.ofNat 32 (i 0).val) (T.n (ix1 0) * 256#32) = 1#1 := by
    refine Eq.trans (congrArg (IntOp.cmpi .slt _) ?_) h
    exact congrArg (fun x => T.n x * 256#32) (one_idx _ _)
  have hc := (IntOp.cmpi_slt (x := BitVec.ofNat 32 (i 0).val) (y := T.n (ix1 0) * 256#32)).1 hc
  have hm : (T.n (ix1 0) * 256#32).toNat = T.na * 256 := by
    rw [BitVec.toNat_mul]
    show T.na * 256 % _ = _
    omega
  have hr : (BitVec.ofNat 32 (i 0).val).toNat = (i 0).val := by rw [BitVec.toNat_ofNat]; omega
  rw [BitVec.toInt_eq_toNat_of_lt (by rw [hr]; omega), BitVec.toInt_eq_toNat_of_lt (by rw [hm]; omega), hr, hm] at hc
  exact_mod_cast hc

end Cert.ExpertsIdeal.Run

end
-- ==== Proof.Frame.lean ====
/- The experts' kernel from any memory whose tables are in range, over any float values: it ends, faults nowhere, leaves its
   arguments and its semaphores as they were, and leaves in its result's array what is written back at each point. -/
module

public import proofs.«01_k».proof.Proof.Tables
public import Idealize.ShloMosaic.Lib.Pipeline.Quiescent
public import Idealize.ShloMosaic.Lib.Claim

@[expose] public section

set_option maxRecDepth 16384
set_option Elab.async false

noncomputable section

namespace Cert.ExpertsIdeal.Run

open Cert.ExpertsIdeal
open Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

variable (T : Tab) (m : (ℓ : Loc nD τ sig) → Buf (Elt F) ℓ) (ρ : Dev nD → PrngReg)

/-- The block of window `w` at a point, as the argument holds it. -/
def iblk (c : Dev nD) (w : Fin (cfgA F T).W) (t : Fin (cfgA F T).N) :
    (((cfgA F T).win w).xblock ((cfgA F T).grid.coords t)).Idx → Elt F ((cfgA F T).win w).elt :=
  (((cfgA F T).win w).blk t).view.read (Elt F) ((s₀ m ρ).mem (((cfgA F T).win w).arr.view.loc (c : Thread nD τ)))

/-- The weights of a point's expert, as the scratch buffers hold them. -/
def gateUp (c : Dev nD) (t : Fin (cfgA F T).N) : FVec F S1024x2048 .bf16 := k0_pay2 (iblk T m ρ c (1 : Fin 6) t)
def down (c : Dev nD) (t : Fin (cfgA F T).N) : FVec F S1024x1024 .bf16 := k0_pay3 (iblk T m ρ c (3 : Fin 6) t)

/-- The last active point up to `n`: the one whose results and weights are held after point `n`. -/
def held_at (n : ℕ) : Fin (cfgA F T).N := ⟨min n (T.na - 1), show min n (T.na - 1) < 304 by have := T.na_le; have := T.na_pos; omega⟩

/-- The result of a point's block. -/
def result (c : Dev nD) (t : Fin (cfgA F T).N) : FVec F S256x1024 .f32 :=
  ffn (gateUp T m ρ c t) (down T m ρ c t) (iblk T m ρ c (0 : Fin 6) t) (iblk T m ρ c (2 : Fin 6) t) (iblk T m ρ c (4 : Fin 6) t)

theorem held_active (t : Fin (cfgA F T).N) (h : t.val < T.na) : held_at T t.val = t :=
  Fin.ext (by show min t.val (T.na - 1) = t.val; omega)

theorem held_idle (n : ℕ) (h : T.na ≤ n) : held_at (F := F) T n = held_at T (n - 1) :=
  Fin.ext (by show min n (T.na - 1) = min (n - 1) (T.na - 1); have := T.na_pos; omega)

/-- Points of one expert read the same block of weights. -/
theorem same_gateUp (c : Dev nD) (s t : Fin (cfgA F T).N) (h : T.expert (at304 T s) = T.expert (at304 T t)) :
    gateUp T m ρ c s = gateUp T m ρ c t := by
  unfold gateUp
  refine congrArg k0_pay2 (funext fun y => ?_)
  unfold iblk
  refine congrArg ((s₀ m ρ).mem (((cfgA F T).win (1 : Fin 6)).arr.view.loc (c : Thread nD τ))) (funext fun a => Fin.ext ?_)
  show ((cfgA F T).win (1 : Fin 6)).index s a * S1x1024x2048.size a + 1 * (y a).val
    = ((cfgA F T).win (1 : Fin 6)).index t a * S1x1024x2048.size a + 1 * (y a).val
  rw [index_1, index_1, h]

theorem same_down (c : Dev nD) (s t : Fin (cfgA F T).N) (h : T.expert (at304 T s) = T.expert (at304 T t)) :
    down T m ρ c s = down T m ρ c t := by
  unfold down
  refine congrArg k0_pay3 (funext fun y => ?_)
  unfold iblk
  refine congrArg ((s₀ m ρ).mem (((cfgA F T).win (3 : Fin 6)).arr.view.loc (c : Thread nD τ))) (funext fun a => Fin.ext ?_)
  show ((cfgA F T).win (3 : Fin 6)).index s a * S1x1024x1024.size a + 1 * (y a).val
    = ((cfgA F T).win (3 : Fin 6)).index t a * S1x1024x1024.size a + 1 * (y a).val
  rw [index_3, index_3, h]

/-- What holds before position `t`: past the first point the scratch buffers hold the weights of the last active point's
    expert, and the body's halves of the tables are there. -/
def inv (c : Dev nD) (t : ℕ) : sProp 𝕄 :=
  iprop((∃ a, ⌜t ≠ 0 → a = scrG.view.rep (gateUp T m ρ c (held_at T (t - 1)))⌝ ∗ (scrG.view.loc (c : Thread nD τ) ↦{fullShare} a))
    ∗ (∃ a, ⌜t ≠ 0 → a = scrD.view.rep (down T m ρ c (held_at T (t - 1)))⌝ ∗ (scrD.view.loc (c : Thread nD τ) ↦{fullShare} a))
    ∗ (tabE.view.loc (c : Thread nD τ) ↦{fullShare.right} T.e)
    ∗ (tabN.view.loc (c : Thread nD τ) ↦{fullShare.right} T.n))

/-- The pipeline's data: the arguments' blocks stay, and the result's buffer holds the last active point's block. -/
def dats (_ : Fin 1) (c : Dev nD) : Dat τ (Elt F) Unit ℕ (UR sig nD τ) ℕ (cfgA F T) c where
  A w := (s₀ m ρ).mem (((cfgA F T).win w).arr.view.loc (c : Thread nD τ))
  after w t := match w with
    | ⟨0, _⟩ => iblk T m ρ c (0 : Fin 6) t
    | ⟨1, _⟩ => iblk T m ρ c (1 : Fin 6) t
    | ⟨2, _⟩ => iblk T m ρ c (2 : Fin 6) t
    | ⟨3, _⟩ => iblk T m ρ c (3 : Fin 6) t
    | ⟨4, _⟩ => iblk T m ρ c (4 : Fin 6) t
    | ⟨5, _⟩ => result T m ρ c (held_at T t.val)
  Φ t := inv T m ρ c t.val
  q _ := fullShare
  owed _ := 0

theorem after_0 (c : Dev nD) (t : Fin (cfgA F T).N) : (dats T m ρ 0 c).after (0 : Fin 6) t = iblk T m ρ c (0 : Fin 6) t := rfl
theorem after_1 (c : Dev nD) (t : Fin (cfgA F T).N) : (dats T m ρ 0 c).after (1 : Fin 6) t = iblk T m ρ c (1 : Fin 6) t := rfl
theorem after_2 (c : Dev nD) (t : Fin (cfgA F T).N) : (dats T m ρ 0 c).after (2 : Fin 6) t = iblk T m ρ c (2 : Fin 6) t := rfl
theorem after_3 (c : Dev nD) (t : Fin (cfgA F T).N) : (dats T m ρ 0 c).after (3 : Fin 6) t = iblk T m ρ c (3 : Fin 6) t := rfl
theorem after_4 (c : Dev nD) (t : Fin (cfgA F T).N) : (dats T m ρ 0 c).after (4 : Fin 6) t = iblk T m ρ c (4 : Fin 6) t := rfl
theorem after_5 (c : Dev nD) (t : Fin (cfgA F T).N) : (dats T m ρ 0 c).after (5 : Fin 6) t = result T m ρ c (held_at T t.val) := rfl

/-- An argument's buffer holds the point's block when the body runs. -/
theorem before_in (c : Dev nD) (w : Fin (cfgA F T).W) (t : Fin (cfgA F T).N) (d) (hw : w.val ≠ 5) :
    (dats T m ρ 0 c).before w t d = (dats T m ρ 0 c).after w t := by
  match w, hw with
  | ⟨0, _⟩, _ => exact ((dats T m ρ 0 c).before_in_eq_fetched (0 : Fin 6) rfl (fun _ => rfl) (fun _ _ _ => rfl) (fun _ => rfl) t d).trans rfl
  | ⟨1, _⟩, _ => exact ((dats T m ρ 0 c).before_in_eq_fetched (1 : Fin 6) rfl (fun _ => rfl) (fun _ _ _ => rfl) (fun _ => rfl) t d).trans rfl
  | ⟨2, _⟩, _ => exact ((dats T m ρ 0 c).before_in_eq_fetched (2 : Fin 6) rfl (fun _ => rfl) (fun _ _ _ => rfl) (fun _ => rfl) t d).trans rfl
  | ⟨3, _⟩, _ => exact ((dats T m ρ 0 c).before_in_eq_fetched (3 : Fin 6) rfl (fun _ => rfl) (fun _ _ _ => rfl) (fun _ => rfl) t d).trans rfl
  | ⟨4, _⟩, _ => exact ((dats T m ρ 0 c).before_in_eq_fetched (4 : Fin 6) rfl (fun _ => rfl) (fun _ _ _ => rfl) (fun _ => rfl) t d).trans rfl
  | ⟨5, _⟩, h => exact absurd rfl h

/-- The result's buffer, when the body runs at a point past the active ones, holds the last active point's block. -/
theorem before_5 (c : Dev nD) (t : Fin (cfgA F T).N) (h : T.na ≤ t.val) (d) :
    (dats T m ρ 0 c).before (5 : Fin 6) t d = result T m ρ c (held_at T t.val) := by
  have h0 := T.na_pos
  rw [(dats T m ρ 0 c).before_out_traj (5 : Fin 6) rfl (fun _ _ => rfl) (fun t _ hi _ => by
      rw [idle_5] at hi
      have hi : T.na ≤ t.val := by simpa using hi
      rw [after_5, after_5, held_idle T _ hi]) t.val t rfl d,
    fresh_5 T t.val (lt304 T t), decide_eq_false (by omega), if_neg (by decide), after_5, held_idle T t.val h]

/-- A point's buffers, and the body on them. -/
abbrev ms0 (t : Fin (cfgA F T).N) : Memref sig .tc .vmem S256x1024 .f32 := spec0_0.stage ((cfgA F T).slots t (0 : Fin 6))
abbrev ms1 (t : Fin (cfgA F T).N) : Memref sig .tc .vmem S1x1024x2048 .f32 := spec0_1.stage ((cfgA F T).slots t (1 : Fin 6))
abbrev ms2 (t : Fin (cfgA F T).N) : Memref sig .tc .vmem S1x1x2048 .f32 := spec0_2.stage ((cfgA F T).slots t (2 : Fin 6))
abbrev ms3 (t : Fin (cfgA F T).N) : Memref sig .tc .vmem S1x1024x1024 .f32 := spec0_3.stage ((cfgA F T).slots t (3 : Fin 6))
abbrev ms4 (t : Fin (cfgA F T).N) : Memref sig .tc .vmem S1x1x1024 .f32 := spec0_4.stage ((cfgA F T).slots t (4 : Fin 6))
abbrev ms5 (t : Fin (cfgA F T).N) : Memref sig .tc .vmem S256x1024 .f32 := spec0_5.stage ((cfgA F T).slots t (5 : Fin 6))
abbrev hs0 (t : Fin (cfgA F T).N) : (ms0 T t).IsWhole := hstage0_0 (((cfgA F T).slots t (0 : Fin 6)).cast nbuf0_0)
abbrev hs1 (t : Fin (cfgA F T).N) : (ms1 T t).IsWhole := hstage0_1 (((cfgA F T).slots t (1 : Fin 6)).cast nbuf0_1)
abbrev hs2 (t : Fin (cfgA F T).N) : (ms2 T t).IsWhole := hstage0_2 (((cfgA F T).slots t (2 : Fin 6)).cast nbuf0_2)
abbrev hs3 (t : Fin (cfgA F T).N) : (ms3 T t).IsWhole := hstage0_3 (((cfgA F T).slots t (3 : Fin 6)).cast nbuf0_3)
abbrev hs4 (t : Fin (cfgA F T).N) : (ms4 T t).IsWhole := hstage0_4 (((cfgA F T).slots t (4 : Fin 6)).cast nbuf0_4)
abbrev hs5 (t : Fin (cfgA F T).N) : (ms5 T t).IsWhole := hstage0_5 (((cfgA F T).slots t (5 : Fin 6)).cast nbuf0_5)

abbrev bodyAt (t : Fin (cfgA F T).N) : Prog (TpuEff nD τ sig (Elt F) Λ₀ .tc) PUnit :=
  body ((cfgA F T).grid.coords t) (ms0 T t) (hs0 T t) (ms1 T t) (hs1 T t) (ms2 T t) (hs2 T t) (ms3 T t) (hs3 T t) (ms4 T t) (hs4 T t)
    (ms5 T t) (hs5 T t)

/-- What the body only reads, at a point. -/
abbrev heldAt (c : Dev nD) (t : Fin (cfgA F T).N) : sProp 𝕄 :=
  held c (ms0 T t) (ms1 T t) (ms2 T t) (ms3 T t) (ms4 T t) T.e T.n (iblk T m ρ c (0 : Fin 6) t) (iblk T m ρ c (1 : Fin 6) t)
    (iblk T m ρ c (2 : Fin 6) t) (iblk T m ρ c (3 : Fin 6) t) (iblk T m ρ c (4 : Fin 6) t)

set_option maxHeartbeats 400000 in
/-- The body at an active point, whichever path it takes: the point's result and its expert's weights are held after it. -/
theorem active_wp (c : Dev nD) (t : Fin (cfgA F T).N) (h : t.val < T.na)
    (a0 : Buf (Elt F) ((c : Thread nD τ).loc cc0_scratch0)) (a1 : Buf (Elt F) ((c : Thread nD τ).loc cc0_scratch1))
    (h0 : t.val ≠ 0 → a0 = scrG.view.rep (gateUp T m ρ c (held_at T (t.val - 1))))
    (h1 : t.val ≠ 0 → a1 = scrD.view.rep (down T m ρ c (held_at T (t.val - 1)))) (K : PUnit → sProp 𝕄) :
    iprop(heldAt T m ρ c t ∗ (∃ d, owns (c : Thread nD τ) (ms5 T t) fullShare d)
        ∗ (scrG.view.loc (c : Thread nD τ) ↦{fullShare} a0) ∗ (scrD.view.loc (c : Thread nD τ) ↦{fullShare} a1)
        ∗ (iprop(heldAt T m ρ c t ∗ owns (c : Thread nD τ) (ms5 T t) fullShare (result T m ρ c t)
            ∗ (scrG.view.loc (c : Thread nD τ) ↦{fullShare} scrG.view.rep (gateUp T m ρ c t))
            ∗ (scrD.view.loc (c : Thread nD τ) ↦{fullShare} scrD.view.rep (down T m ρ c t))) -∗ K ⟨⟩))
      ⊢ wp frame (wpE (defs₀ (F := F)) Variants.none c none) Set.univ (bodyAt T t) K := by
  have hc := (active_iff (F := F) T t).2 h
  by_cases ho : other (F := F) ((cfgA F T).grid.coords t) T.e = 1#1
  · exact new_wp c ((cfgA F T).grid.coords t) (ms0 T t) (hs0 T t) (ms1 T t) (hs1 T t) (ms2 T t) (hs2 T t) (ms3 T t) (hs3 T t)
      (ms4 T t) (hs4 T t) (ms5 T t) (hs5 T t) T.e T.n _ _ _ _ _ hc ho a0 a1 K
  · obtain ⟨hne, hs⟩ := same_expert T t ho
    have hp : held_at (F := F) T (t.val - 1) = ⟨t.val - 1, by have := t.isLt; omega⟩ := Fin.ext (by
      show min (t.val - 1) (T.na - 1) = t.val - 1; omega)
    have he := hs ⟨t.val - 1, by have := t.isLt; omega⟩ (by simp only; omega)
    rw [h0 hne, h1 hne, hp, same_gateUp T m ρ c _ _ he, same_down T m ρ c _ _ he]
    exact same_wp c ((cfgA F T).grid.coords t) (ms0 T t) (hs0 T t) (ms1 T t) (hs1 T t) (ms2 T t) (hs2 T t) (ms3 T t) (hs3 T t)
      (ms4 T t) (hs4 T t) (ms5 T t) (hs5 T t) T.e T.n _ _ _ _ _ _ _ hc ho K

set_option maxHeartbeats 4000000 in
/-- The body does at each point what the data says. -/
theorem sound_body (c : Dev nD) (t : Fin (cfgA F T).N) :
    iprop((dats T m ρ 0 c).Φ t.castSucc ∗ (dats T m ρ 0 c).owesAt () t.castSucc
        ∗ (∃ d, owns (c : Thread nD τ) (ms0 T t) fullShare ((dats T m ρ 0 c).before (0 : Fin 6) t d))
        ∗ (∃ d, owns (c : Thread nD τ) (ms1 T t) fullShare ((dats T m ρ 0 c).before (1 : Fin 6) t d))
        ∗ (∃ d, owns (c : Thread nD τ) (ms2 T t) fullShare ((dats T m ρ 0 c).before (2 : Fin 6) t d))
        ∗ (∃ d, owns (c : Thread nD τ) (ms3 T t) fullShare ((dats T m ρ 0 c).before (3 : Fin 6) t d))
        ∗ (∃ d, owns (c : Thread nD τ) (ms4 T t) fullShare ((dats T m ρ 0 c).before (4 : Fin 6) t d))
        ∗ (∃ d, owns (c : Thread nD τ) (ms5 T t) fullShare ((dats T m ρ 0 c).before (5 : Fin 6) t d)))
      ⊢ wp frame (wpE (defs₀ (F := F)) Variants.none c none) Set.univ (bodyAt T t) fun _ =>
          iprop((dats T m ρ 0 c).Φ t.succ ∗ (dats T m ρ 0 c).owesAt () t.succ
            ∗ bigSep Finset.univ fun w : Fin (cfgA F T).W =>
                match (cfgA F T).idle w ((cfgA F T).grid.coords t) with
                | true =>
                  match ((cfgA F T).win w).flush t with
                  | false => iprop(∃ d, owns (c : Thread nD τ) (((cfgA F T).win w).stage ((cfgA F T).slots t w)) fullShare ((dats T m ρ 0 c).before w t d))
                  | true => owns (c : Thread nD τ) (((cfgA F T).win w).stage ((cfgA F T).slots t w)) fullShare ((dats T m ρ 0 c).after w t)
                | false => owns (c : Thread nD τ) (((cfgA F T).win w).stage ((cfgA F T).slots t w)) fullShare ((dats T m ρ 0 c).after w t)) := by
  rw [bigSep_W0]
  have b0 := fun d => before_in T m ρ c (0 : Fin 6) t d (show 0 ≠ 5 by decide)
  have b1 := fun d => before_in T m ρ c (1 : Fin 6) t d (show 1 ≠ 5 by decide)
  have b2 := fun d => before_in T m ρ c (2 : Fin 6) t d (show 2 ≠ 5 by decide)
  have b3 := fun d => before_in T m ρ c (3 : Fin 6) t d (show 3 ≠ 5 by decide)
  have b4 := fun d => before_in T m ρ c (4 : Fin 6) t d (show 4 ≠ 5 by decide)
  rewrite [idle_5 (F := F) T t]
  simp only [b0, b1, b2, b3, b4, after_0, after_1, after_2, after_3, after_4, after_5]
  rewrite [show (dats T m ρ 0 c).Φ t.succ = inv T m ρ c (t.val + 1) from rfl, show (dats T m ρ 0 c).Φ t.castSucc = inv T m ρ c t.val from rfl,
    show (dats T m ρ 0 c).owesAt () t.succ = (dats T m ρ 0 c).owesAt () t.castSucc from rfl]
  unfold inv
  simp only [Nat.add_sub_cancel]
  by_cases h : t.val < T.na
  · rw [held_active T t h, decide_eq_true h, Bool.not_true]
    iintro ⟨⟨⟨%a0, %h0, HS0⟩, ⟨%a1, %h1, HS1⟩, HT0, HT1⟩, Ho, ⟨%d0, H0⟩, ⟨%d1, H1⟩, ⟨%d2, H2⟩, ⟨%d3, H3⟩, ⟨%d4, H4⟩, ⟨%d5, H5⟩⟩
    iapply (active_wp T m ρ c t h a0 a1 h0 h1)
    isplitl [H0 H1 H2 H3 H4 HT0 HT1]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      iexact HT1
    isplitl [H5]; · iexists _; iexact H5
    isplitl [HS0]; · iexact HS0
    isplitl [HS1]; · iexact HS1
    iintro ⟨⟨H0, H1, H2, H3, H4, HT0, HT1⟩, H5, HS0, HS1⟩
    isplitl [HS0 HS1 HT0 HT1]
    · isplitl [HS0]
      · iexists _; isplitr; swap
        · iexact HS0
        · ipureintro; intro _; rfl
      isplitl [HS1]
      · iexists _; isplitr; swap
        · iexact HS1
        · ipureintro; intro _; rfl
      isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    iexact H5
  · have hn : T.na ≤ t.val := by omega
    have hc : ¬ k0_cond1 ((cfgA F T).grid.coords t) (wordN (F := F) T.n) = 1#1 := mt (active_iff (F := F) T t).1 h
    have ht : t.val ≠ 0 := by have := T.na_pos; omega
    rw [decide_eq_false h, Bool.not_false, held_idle T t.val hn]
    simp only [before_5 T m ρ c t hn]
    rw [held_idle T t.val hn]
    iintro ⟨⟨⟨%a0, %h0, HS0⟩, ⟨%a1, %h1, HS1⟩, HT0, HT1⟩, Ho, ⟨%d0, H0⟩, ⟨%d1, H1⟩, ⟨%d2, H2⟩, ⟨%d3, H3⟩, ⟨%d4, H4⟩, ⟨%d5, H5⟩⟩
    iapply (run_idle c ((cfgA F T).grid.coords t) (ms0 T t) (hs0 T t) (ms1 T t) (hs1 T t) (ms2 T t) (hs2 T t) (ms3 T t) (hs3 T t)
      (ms4 T t) (hs4 T t) (ms5 T t) (hs5 T t) T.n hc)
    isplitl [HT1]; · iexact HT1
    iintro HT1
    isplitl [HS0 HS1 HT0 HT1]
    · isplitl [HS0]
      · iexists _; isplitr; swap
        · iexact HS0
        · ipureintro; intro _; exact h0 ht
      isplitl [HS1]
      · iexists _; isplitr; swap
        · iexact HS1
        · ipureintro; intro _; exact h1 ht
      isplitl [HT0]
      · iexact HT0
      iexact HT1
    isplitl [Ho]; · iexact Ho
    isplitl [H0]; · iexact H0
    isplitl [H1]; · iexact H1
    isplitl [H2]; · iexact H2
    isplitl [H3]; · iexact H3
    isplitl [H4]; · iexact H4
    cases ((cfgA F T).win (5 : Fin 6)).flush t
    · iexists d5; iexact H5
    · iexact H5

theorem body_obligation (c : Dev nD) : BodyObligation (dats T m ρ 0 c) (defs₀ (F := F)) Variants.none () Set.univ := fun t => by
  rw [bigSep_W0]
  exact sound_body T m ρ c t

end Cert.ExpertsIdeal.Run

end
-- ==== Proof.Ends.lean ====
/- The launch of the experts' kernel: from any memory whose tables are in range it ends, with every array as the data says
   and the arguments and the semaphores as they were. -/
module

public import proofs.«01_k».proof.Proof.Frame

@[expose] public section

set_option maxRecDepth 16384
set_option Elab.async false

noncomputable section

namespace Cert.ExpertsIdeal.Run

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

variable (T : Tab) (m : (ℓ : Loc nD τ sig) → Buf (Elt F) ℓ) (ρ : Dev nD → PrngReg)

/-- The memory's tables are `T`. -/
structure Holds : Prop where
  e : ∀ c : Dev nD, m ((c : Thread nD τ).loc main_arg0) = T.e
  n : ∀ c : Dev nD, m ((c : Thread nD τ).loc main_arg1) = T.n

/-- The pipeline's cells of the launch, embedded whole. -/
abbrev EP : Emb (UR sig nD τ) 𝕄 := emb₁

variable (F) in
def start : UR sig nD τ :=
  initOf (Pipeline.cells (Pipeline.pin (pcfgs (F := F)) fun _ => adm T) ((launch0 (F := F)).cellOf_inj fun _ => adm T))
    (Pipeline.launchToks (Pipeline.pin (pcfgs (F := F)) fun _ => adm T) ((launch0 (F := F)).cellOf_inj fun _ => adm T))

theorem share_eq (c : Dev nD) (w : Fin (cfgA F T).W) : (dats T m ρ 0 c).share w = fullShare := by unfold Dat.share; split <;> rfl

/-- The two tables, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- What holds before the first point, from the tables and the scratch buffers. -/
theorem inv_start (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = inv T m ρ c 0 from rfl]
  unfold inv
  iintro ⟨-, ⟨HT0, HT1⟩, ⟨%a0, HS0⟩, ⟨%a1, HS1⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HT0]
  · iexact HT0
  iexact HT1

/-- After the last point the scratch buffers are given back. -/
theorem inv_end (c : Dev nD) : (dats T m ρ 0 c).Φ (Fin.last (cfgA F T).N) ⊢ iprop(BI.emp ∗ Pipeline.scopedRest spec0 c) := by
  rw [scopedRest0_eq, show (dats T m ρ 0 c).Φ (Fin.last (cfgA F T).N) = inv T m ρ c 304 from rfl]
  unfold inv
  iintro ⟨⟨%a0, -, HS0⟩, ⟨%a1, -, HS1⟩, -, -⟩
  isplitr; · iempintro
  isplitl [HS0]
  · iexists a0; iexact HS0
  iexists a1; iexact HS1

/-- How the run ends: every array as the data says, and the tables as they were. -/
def Ends : PUnit × MemSt nD τ sig (Elt F) → Prop := fun r =>
  ∀ c : Dev nD, (∀ w : Fin (cfgA F T).W, r.2.mem (((cfgA F T).win w).arr.view.loc (c : Thread nD τ)) = (dats T m ρ 0 c).arrAt w (cfgA F T).N)
    ∧ ∀ j, r.2.mem ((c : Thread nD τ).loc (pre0.ref j)) = (adm (F := F) T).1 j

theorem tables_at (hT : Holds T m) (c : Dev nD) (j : Fin 2) : m ((c : Thread nD τ).loc (pre0.ref j)) = (adm (F := F) T).1 j := by
  fin_cases j
  · exact hT.e c
  · exact hT.n c

set_option backward.isDefEq.respectTransparency.types false in
set_option maxHeartbeats 4000000 in
/-- The run from a memory whose tables are `T`. -/
theorem run (hT : Holds T m) :
    θ_run (defs (F := F)) (onTc (τ := τ) (main (F := F))) (s₀ m ρ) (fun r => Ends T m ρ r ∧ r.2.sem = fun _ => 0) :=
  Pipeline.θ_run_region_noSem_pf_quiescent pcfgs (fun _ => adm T) (dats T m ρ) () ((launch0 (F := F)).cellOf_inj fun _ => adm T) (0 : Fin 1)
    (launch0 (F := F)).win.to₀ (launch0 (F := F)).pre EP defs₀ Variants.none m ρ main
    (hbody := fun c => (body_obligation T m ρ c).loose) (hne := (launch0 (F := F)).block_pos)
    (harr := (launch0 (F := F)).arr_whole) (hstage := (launch0 (F := F)).stage_whole) (howed := fun _ _ => rfl)
    (u₀ := start F T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (Pipeline.pin (pcfgs (F := F)) fun _ => adm T) (dats T m ρ) 0 (launch0 (F := F)).win.arr_inj c
      (launch0 (F := F)).arr_whole (share_eq T m ρ c) _ _ fun _ => rfl)
    (hpf := tables_at T m hT)
    (X := fun _ => iprop(emp)) (Y := fun _ => iprop(emp)) (Z := fun _ => iprop(emp))
    (hX := fun c => by rw [unscopedRestP0_eq]; iintro -; isplitr <;> iempintro)
    (hin := inv_start T m ρ)
    (hout := inv_end T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments a run leaves as they were, and the result's array. -/
theorem ends (hT : Holds T m) (r : PUnit × MemSt nD τ sig (Elt F)) (h : Ends T m ρ r) (c : Dev nD) :
    (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  have kept : ∀ w : Fin (cfgA F T).W, ((cfgA F T).win w).isOut = false →
      r.2.mem (((cfgA F T).win w).arr.view.loc (c : Thread nD τ)) = (dats T m ρ 0 c).A w := fun w hw =>
    ((h c).1 w).trans ((dats T m ρ 0 c).arrAt_in w hw _)
  ⟨((h c).2 0).trans (hT.e c).symm, ((h c).2 1).trans (hT.n c).symm, kept (0 : Fin 6) rfl, kept (1 : Fin 6) rfl,
    kept (2 : Fin 6) rfl, kept (3 : Fin 6) rfl, kept (4 : Fin 6) rfl⟩

end Cert.ExpertsIdeal.Run

end
-- ==== Proof.Ref.lean ====
/- The reference's experts, read at one row and one column. -/
module

public import proofs.«01_k».proof.Proof.Gen.ExpertsReferenceIdeal.Run
public import proofs.«01_k».proof.Proof.Gen.ExpertsReferenceIdeal.Read
public import Idealize.ShloMosaic.Lib.Pointwise

@[expose] public section

set_option maxRecDepth 16384

noncomputable section

namespace Cert.ExpertsReferenceIdeal.Ffn

open Idealize.ShloMosaic Idealize.ShloMosaic.TcCoe Idealize.SL.Sem
open Cert.ExpertsReferenceIdeal Cert.ExpertsReferenceIdeal.Gen Cert.ExpertsReferenceIdeal.Read

/-! ## What an expert computes of one row -/

/-- The bound of the clamps, its negative, one, and the factor in the gate's sigmoid. -/
abbrev seven : EReal := FloatOps.ofBits (F := Ideal) .f32 0x40E00000#32
abbrev minusSeven : EReal := FloatOps.ofBits (F := Ideal) .f32 0xC0E00000#32
abbrev one : EReal := FloatOps.ofBits (F := Ideal) .f32 0x3F800000#32
abbrev slope : EReal := FloatOps.ofBits (F := Ideal) .f32 0x3FD9DB23#32

/-- The first product of a row, with its bias. -/
def first (X : FVec Ideal S77824x1024 .f32) (W : FVec Ideal S32x1024x2048 .f32) (B : FVec Ideal S32x1x2048 .f32)
    (r : Fin 77824) (e : Fin 32) (k : Fin 2048) : EReal :=
  (∑ j : Fin 1024, X (ix2 r j) * W (ix3 e j k)) + B (ix3 e 0 k)

/-- The gated unit: the clamped second half plus one, times the clamped gate and its sigmoid. -/
def unit (g u : EReal) : EReal :=
  (min seven (max minusSeven u) + one) * (min g seven * Ideal.div one (one + Ideal.exp (-(min g seven * slope))))

/-- The result of a row: the gated units against the second weights, with their bias. -/
def second (X : FVec Ideal S77824x1024 .f32) (W : FVec Ideal S32x1024x2048 .f32) (B : FVec Ideal S32x1x2048 .f32)
    (D : FVec Ideal S32x1024x1024 .f32) (C : FVec Ideal S32x1x1024 .f32) (r : Fin 77824) (e : Fin 32) (l : Fin 1024) : EReal :=
  (∑ k : Fin 1024, unit (first X W B r e ⟨k.val, by omega⟩) (first X W B r e ⟨1024 + k.val, by omega⟩) * D (ix3 e k l)) + C (ix3 e 0 l)

/-! ## The rows of a table at a list of indices -/

/-- A gather of whole slices along the first axis. -/
abbrev sliceDims (N R A B : ℕ) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- It takes the slice that the index names, where the index is in range. -/
theorem slice_at {α : Type} {N R A B : ℕ} (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (w : IVec ⟨2, ![R, 1]⟩ 32) (b : Fin R) (e : Fin N) (j : Fin A) (k : Fin B)
    (h : (w (ix2 b 0)).toInt.toNat = e.val) : Host.gather (sliceDims N R A B wf) x w (ix3 b j k) = x (ix3 e j k) := by
  unfold Host.gather
  refine congrArg x (funext fun a => Fin.ext ?_)
  show (sliceDims N R A B wf).start (ix3 b j k) w a + (sliceDims N R A B wf).batchCoord (ix3 b j k) a
    + (sliceDims N R A B wf).offCoord (ix3 b j k) a = _
  rw [GatherDims.batchCoord_eq_zero _ _ _ List.not_mem_nil, Nat.add_zero]
  match a with
  | ⟨0, _⟩ =>
    have hs : (sliceDims N R A B wf).siIdx (ix3 b j k) ⟨List.idxOf (0 : Fin 3) (sliceDims N R A B wf).startIndexMap,
        List.idxOf_lt_length_iff.2 (List.mem_singleton.mpr rfl)⟩ = ix2 b 0 := funext fun q => Fin.ext (match q with
      | ⟨0, _⟩ => rfl
      | ⟨1, _⟩ => rfl)
    show (sliceDims N R A B wf).start (ix3 b j k) w 0 + (sliceDims N R A B wf).offCoord (ix3 b j k) 0 = e.val
    rw [GatherDims.offCoord_eq_zero _ _ _ (fun q => ((GatherDims.mem_sKept _ _).mp q).1 (List.mem_singleton.mpr rfl)), Nat.add_zero]
    unfold GatherDims.start
    rw [dif_pos (show (0 : Fin 3) ∈ (sliceDims N R A B wf).startIndexMap from List.mem_singleton.mpr rfl), hs, h]
    exact Nat.min_eq_left (by have := e.isLt; show e.val ≤ N - 1; omega)
  | ⟨1, _⟩ => exact Nat.zero_add _
  | ⟨2, _⟩ => exact Nat.zero_add _

/-! ## The reference's stages -/

variable (A0 : IVec S304 32) (X : FVec Ideal S77824x1024 .f32) (W : FVec Ideal S32x1024x2048 .f32) (B : FVec Ideal S32x1x2048 .f32)
  (D : FVec Ideal S32x1024x1024 .f32) (C : FVec Ideal S32x1x1024 .f32)

/-- A block's index, in range, is the table's word. -/
theorem index_at (b : Fin 304) (h : (A0 (ix1 b)).toNat < 32) :
    (val_main_v6 (F := Ideal) A0 (ix2 b 0)).toInt.toNat = (A0 (ix1 b)).toNat := by
  have e : val_main_v6 (F := Ideal) A0 (ix2 b 0) = A0 (ix1 b) := by
    rw [val_main_v6_apply, show idx_main_v6 (ix2 b 0) = ix1 b from funext fun a => match a with | ⟨0, _⟩ => rfl, val_main_v5_apply]
    have hc : val_main_v2 (F := Ideal) A0 (ix1 b) ≠ 1#1 := fun hc => by
      have hz := (IntOp.cmpi_slt (x := A0 (ix1 b)) (y := 0#32)).mp hc
      rw [BitVec.toInt_eq_toNat_of_lt (by omega)] at hz
      exact absurd (show ((A0 (ix1 b)).toNat : Int) < 0 from hz) (by omega)
    exact if_neg hc
  rw [e, BitVec.toInt_eq_toNat_of_lt (by omega), Int.toNat_natCast]

/-- A block's row is a row of the whole. -/
theorem rows_at (b : Fin 304) (q : Fin 256) (j : Fin 1024) : val_main_v0 (F := Ideal) X (ix3 b q j) = X (ix2 ⟨b.val * 256 + q.val, by omega⟩ j) := by
  rw [val_main_v0_apply]
  refine congrArg X (funext fun a => Fin.ext ?_)
  match a with
  | ⟨0, _⟩ => show ((b.val * 256 + q.val) * 1024 + j.val) / 1024 = b.val * 256 + q.val; omega
  | ⟨1, _⟩ => show ((b.val * 256 + q.val) * 1024 + j.val) % 1024 = j.val; omega

variable (b : Fin 304) (q : Fin 256) (e : Fin 32) (he : (A0 (ix1 b)).toNat = e.val)

include he

theorem index_eq : (val_main_v6 (F := Ideal) A0 (ix2 b 0)).toInt.toNat = e.val :=
  (index_at A0 b (by rw [he]; exact e.isLt)).trans he

theorem weights_at (j : Fin 1024) (k : Fin 2048) : val_main_v7 (F := Ideal) A0 W (ix3 b j k) = W (ix3 e j k) :=
  slice_at _ W _ b e j k (index_eq A0 b e he)

theorem bias_at (k : Fin 2048) : val_main_v15 (F := Ideal) A0 B (ix3 b 0 k) = B (ix3 e 0 k) :=
  slice_at _ B _ b e 0 k (index_eq A0 b e he)

theorem weights2_at (j : Fin 1024) (k : Fin 1024) : val_main_v41 (F := Ideal) A0 D (ix3 b j k) = D (ix3 e j k) :=
  slice_at _ D _ b e j k (index_eq A0 b e he)

theorem bias2_at (k : Fin 1024) : val_main_v49 (F := Ideal) A0 C (ix3 b 0 k) = C (ix3 e 0 k) :=
  slice_at _ C _ b e 0 k (index_eq A0 b e he)

theorem first_at (k : Fin 2048) :
    val_main_v17 (F := Ideal) A0 X W B (ix3 b q k) = first X W B ⟨b.val * 256 + q.val, by omega⟩ e k := by
  rw [val_main_v17_apply, val_main_v8_apply, val_main_v16_apply]
  refine congrArg₂ (fun x y : EReal => x + y) (Finset.sum_congr rfl fun j _ => ?_) ?_
  · exact congrArg₂ (fun x y : EReal => x * y)
      ((congrArg (val_main_v0 (F := Ideal) X) (show lidx_main_v8 (ix3 b q k) j = ix3 b q j from
        funext fun a => match a with | ⟨0, _⟩ => rfl | ⟨1, _⟩ => rfl | ⟨2, _⟩ => rfl)).trans (rows_at X b q j))
      ((congrArg (val_main_v7 (F := Ideal) A0 W) (show ridx_main_v8 (ix3 b q k) j = ix3 b j k from
        funext fun a => match a with | ⟨0, _⟩ => rfl | ⟨1, _⟩ => rfl | ⟨2, _⟩ => rfl)).trans (weights_at A0 W b e he j k))
  · exact (congrArg (val_main_v15 (F := Ideal) A0 B) (show idx_main_v16 (ix3 b q k) = ix3 b 0 k from
        funext fun a => match a with | ⟨0, _⟩ => rfl | ⟨1, _⟩ => rfl | ⟨2, _⟩ => rfl)).trans (bias_at A0 B b e he k)

/-- The gate and the other half. -/
theorem gate_at (k : Fin 1024) :
    val_main_v18 (F := Ideal) A0 X W B (ix3 b q k) = first X W B ⟨b.val * 256 + q.val, by omega⟩ e ⟨k.val, by omega⟩ := by
  rw [val_main_v18_apply]
  exact (congrArg (val_main_v17 (F := Ideal) A0 X W B) (show idx_main_v18 (ix3 b q k) = ix3 b q ⟨k.val, by omega⟩ from
    funext fun a => match a with | ⟨0, _⟩ => rfl | ⟨1, _⟩ => rfl | ⟨2, _⟩ => rfl)).trans (first_at A0 X W B b q e he _)

theorem up_at (k : Fin 1024) :
    val_main_v19 (F := Ideal) A0 X W B (ix3 b q k) = first X W B ⟨b.val * 256 + q.val, by omega⟩ e ⟨1024 + k.val, by omega⟩ := by
  rw [val_main_v19_apply]
  exact (congrArg (val_main_v17 (F := Ideal) A0 X W B) (show idx_main_v19 (ix3 b q k) = ix3 b q ⟨1024 + k.val, by omega⟩ from
    funext fun a => match a with | ⟨0, _⟩ => rfl | ⟨1, _⟩ => rfl | ⟨2, _⟩ => rfl)).trans (first_at A0 X W B b q e he _)

/-- The gated unit. -/
theorem unit_at (k : Fin 1024) : val_main_v34 (F := Ideal) A0 X W B (ix3 b q k)
    = unit (first X W B ⟨b.val * 256 + q.val, by omega⟩ e ⟨k.val, by omega⟩) (first X W B ⟨b.val * 256 + q.val, by omega⟩ e ⟨1024 + k.val, by omega⟩) := by
  rw [← gate_at A0 X W B b q e he, ← up_at A0 X W B b q e he, val_main_v34_apply, val_main_v33_apply, val_main_v32_apply,
    val_main_v30_apply, val_main_v28_apply, val_main_v27_apply, val_main_v26_apply, val_main_v24_apply, val_main_v22_apply,
    val_main_call0_v2_apply, val_main_v21_apply, val_main_v20_apply, val_main_v23_apply, val_main_v25_apply, val_main_v29_apply,
    val_main_v31_apply, val_main_call0_v1_apply, val_main_call0_v4_apply]
  rfl

/-- The result at a block's row. -/
theorem second_at (l : Fin 1024) : val_main_v51 (F := Ideal) A0 X W B D C (ix3 b q l)
    = second X W B D C ⟨b.val * 256 + q.val, by omega⟩ e l := by
  rw [val_main_v51_apply, val_main_v42_apply, val_main_v50_apply]
  refine congrArg₂ (fun x y : EReal => x + y) (Finset.sum_congr rfl fun k _ => ?_) ?_
  · exact congrArg₂ (fun x y : EReal => x * y)
      ((congrArg (val_main_v34 (F := Ideal) A0 X W B) (show lidx_main_v42 (ix3 b q l) k = ix3 b q k from
        funext fun a => match a with | ⟨0, _⟩ => rfl | ⟨1, _⟩ => rfl | ⟨2, _⟩ => rfl)).trans (unit_at A0 X W B b q e he k))
      ((congrArg (val_main_v41 (F := Ideal) A0 D) (show ridx_main_v42 (ix3 b q l) k = ix3 b k l from
        funext fun a => match a with | ⟨0, _⟩ => rfl | ⟨1, _⟩ => rfl | ⟨2, _⟩ => rfl)).trans (weights2_at A0 D b e he k l))
  · exact (congrArg (val_main_v49 (F := Ideal) A0 C) (show idx_main_v50 (ix3 b q l) = ix3 b 0 l from
        funext fun a => match a with | ⟨0, _⟩ => rfl | ⟨1, _⟩ => rfl | ⟨2, _⟩ => rfl)).trans (bias2_at A0 C b e he l)

/-- The reference's result at a row and a column. -/
theorem result_at (l : Fin 1024) : val_main_v52 (F := Ideal) A0 X W B D C (ix2 ⟨b.val * 256 + q.val, by omega⟩ l)
    = second X W B D C ⟨b.val * 256 + q.val, by omega⟩ e l := by
  rw [val_main_v52_apply]
  refine (congrArg (val_main_v51 (F := Ideal) A0 X W B D C) (funext fun a => Fin.ext ?_)).trans (second_at A0 X W B D C b q e he l)
  match a with
  | ⟨0, _⟩ => show ((b.val * 256 + q.val) * 1024 + l.val) / 262144 = b.val; omega
  | ⟨1, _⟩ => show ((b.val * 256 + q.val) * 1024 + l.val) / 1024 % 256 = q.val; omega
  | ⟨2, _⟩ => show ((b.val * 256 + q.val) * 1024 + l.val) % 1024 = l.val; omega

end Cert.ExpertsReferenceIdeal.Ffn

end
-- ==== Proof.Value.lean ====
/- The experts' kernel leaves, in each active block, what the reference computes. -/
module

public import proofs.«01_k».proof.Proof.Ends
public import proofs.«01_k».proof.Proof.Ref
public import Idealize.ShloMosaic.Lib.Pointwise
public import Idealize.ShloMosaic.Lib.Pipeline.ValueKit

@[expose] public section

set_option maxRecDepth 16384

noncomputable section

namespace Cert.ExpertsIdeal.Run

open Cert.ExpertsIdeal Cert.ExpertsIdeal.Gen
open Idealize.ShloMosaic Idealize.ShloMosaic.TcCoe Idealize.SL.Sem
open Cert.ExpertsReferenceIdeal.Ffn (seven minusSeven one slope first unit second)

/-! ## The body's values at a row and a column -/

theorem pay2_at (w : FVec Ideal S1x1024x2048 .f32) (j : Fin 1024) (k : Fin 2048) :
    k0_pay2 (F := Ideal) w (ix2 j k) = w (ix3 0 j k) := by
  pointwise [k0_pay2]

theorem pay3_at (w : FVec Ideal S1x1024x1024 .f32) (j : Fin 1024) (k : Fin 1024) :
    k0_pay3 (F := Ideal) w (ix2 j k) = w (ix3 0 j k) := by
  pointwise [k0_pay3]

theorem pay4_at (x : FVec Ideal S256x1024 .f32) (w : FVec Ideal S1024x2048 .bf16) (b : FVec Ideal S1x1x2048 .f32)
    (q : Fin 256) (k : Fin 2048) :
    k0_pay4 (F := Ideal) x w b (ix2 q k) = (∑ j : Fin 1024, x (ix2 q j) * w (ix2 j k)) + b (ix3 0 0 k) := by
  pointwise [k0_pay4]

theorem pay5_at (x : FVec Ideal S256x1024 .f32) (w : FVec Ideal S1024x2048 .bf16) (b : FVec Ideal S1x1x2048 .f32)
    (q : Fin 256) (k : Fin 1024) :
    k0_pay5 (F := Ideal) x w b (ix2 q k) = min seven (max minusSeven (k0_pay4 (F := Ideal) x w b (ix2 q ⟨1024 + k.val, by omega⟩))) + one := by
  unfold k0_pay5
  generalize k0_pay4 (F := Ideal) x w b = y
  pointwise []

theorem pay6_at (x : FVec Ideal S256x1024 .f32) (w : FVec Ideal S1024x2048 .bf16) (b : FVec Ideal S1x1x2048 .f32)
    (q : Fin 256) (k : Fin 1024) :
    k0_pay6 (F := Ideal) x w b (ix2 q k) = min (k0_pay4 (F := Ideal) x w b (ix2 q ⟨k.val, by omega⟩)) seven
      * Ideal.div one (one + Ideal.exp (-(min (k0_pay4 (F := Ideal) x w b (ix2 q ⟨k.val, by omega⟩)) seven * slope))) := by
  unfold k0_pay6
  generalize k0_pay4 (F := Ideal) x w b = y
  rw [← zero_add (-(_ * slope)), ← sub_eq_add_neg]
  pointwise []

theorem pay1_at (u v : FVec Ideal S256x1024 .f32) (w : FVec Ideal S1024x1024 .bf16) (b : FVec Ideal S1x1x1024 .f32)
    (q : Fin 256) (l : Fin 1024) :
    k0_pay1 (F := Ideal) u v w b (ix2 q l) = (∑ k : Fin 1024, (u (ix2 q k) * v (ix2 q k)) * w (ix2 k l)) + b (ix3 0 0 l) := by
  pointwise [k0_pay1]

/-! ## The blocks of a point, as parts of the arguments -/

variable (T : Tab) (m : (ℓ : Loc nD τ sig) → Buf (Elt Ideal) ℓ) (ρ : Dev nD → PrngReg) (c : Dev nD)

/-- A point's expert. -/
def expertAt (t : Fin 304) : Fin 32 := ⟨T.expert t, T.expert_lt t⟩

section
variable (t : Fin (cfgA Ideal T).N)

theorem rows_blk (h : t.val < T.na) (q : Fin 256) (j : Fin 1024) (hr : t.val * 256 + q.val < 77824) :
    iblk T m ρ c (0 : Fin 6) t (ix2 q j) = m ((c : Thread nD τ).loc main_arg2) (ix2 ⟨t.val * 256 + q.val, hr⟩ j) := by
  unfold iblk
  refine congrArg (m ((c : Thread nD τ).loc main_arg2)) (funext fun a => Fin.ext ?_)
  match a with
  | ⟨0, _⟩ =>
    show ((cfgA Ideal T).win (0 : Fin 6)).index t (0 : Fin 2) * 256 + 1 * q.val = t.val * 256 + q.val
    rw [index_0]
    show min t.val (T.na - 1) * 256 + 1 * q.val = _
    rw [min_eq_left (by omega), one_mul]
  | ⟨1, _⟩ =>
    show ((cfgA Ideal T).win (0 : Fin 6)).index t (1 : Fin 2) * 1024 + 1 * j.val = j.val
    rw [index_0]
    show 0 * 1024 + 1 * j.val = _
    omega

theorem weights_blk (j : Fin 1024) (k : Fin 2048) :
    iblk T m ρ c (1 : Fin 6) t (ix3 0 j k) = m ((c : Thread nD τ).loc main_arg3) (ix3 (expertAt T (at304 T t)) j k) := by
  unfold iblk
  refine congrArg (m ((c : Thread nD τ).loc main_arg3)) (funext fun a => Fin.ext ?_)
  show ((cfgA Ideal T).win (1 : Fin 6)).index t a * S1x1024x2048.size a + 1 * ((ix3 (0 : Fin 1) j k : S1x1024x2048.Idx) a).val = _
  rw [index_1]
  match a with
  | ⟨0, _⟩ => show T.expert (at304 T t) * 1 + 1 * 0 = T.expert (at304 T t); omega
  | ⟨1, _⟩ => show 0 * 1024 + 1 * j.val = j.val; omega
  | ⟨2, _⟩ => show 0 * 2048 + 1 * k.val = k.val; omega

theorem bias_blk (k : Fin 2048) :
    iblk T m ρ c (2 : Fin 6) t (ix3 0 0 k) = m ((c : Thread nD τ).loc main_arg4) (ix3 (expertAt T (at304 T t)) 0 k) := by
  unfold iblk
  refine congrArg (m ((c : Thread nD τ).loc main_arg4)) (funext fun a => Fin.ext ?_)
  show ((cfgA Ideal T).win (2 : Fin 6)).index t a * S1x1x2048.size a + 1 * ((ix3 (0 : Fin 1) (0 : Fin 1) k : S1x1x2048.Idx) a).val = _
  rw [index_2]
  match a with
  | ⟨0, _⟩ => show T.expert (at304 T t) * 1 + 1 * 0 = T.expert (at304 T t); omega
  | ⟨1, _⟩ => rfl
  | ⟨2, _⟩ => show 0 * 2048 + 1 * k.val = k.val; omega

theorem weights2_blk (k l : Fin 1024) :
    iblk T m ρ c (3 : Fin 6) t (ix3 0 k l) = m ((c : Thread nD τ).loc main_arg5) (ix3 (expertAt T (at304 T t)) k l) := by
  unfold iblk
  refine congrArg (m ((c : Thread nD τ).loc main_arg5)) (funext fun a => Fin.ext ?_)
  show ((cfgA Ideal T).win (3 : Fin 6)).index t a * S1x1024x1024.size a + 1 * ((ix3 (0 : Fin 1) k l : S1x1024x1024.Idx) a).val = _
  rw [index_3]
  match a with
  | ⟨0, _⟩ => show T.expert (at304 T t) * 1 + 1 * 0 = T.expert (at304 T t); omega
  | ⟨1, _⟩ => show 0 * 1024 + 1 * k.val = k.val; omega
  | ⟨2, _⟩ => show 0 * 1024 + 1 * l.val = l.val; omega

theorem bias2_blk (l : Fin 1024) :
    iblk T m ρ c (4 : Fin 6) t (ix3 0 0 l) = m ((c : Thread nD τ).loc main_arg6) (ix3 (expertAt T (at304 T t)) 0 l) := by
  unfold iblk
  refine congrArg (m ((c : Thread nD τ).loc main_arg6)) (funext fun a => Fin.ext ?_)
  show ((cfgA Ideal T).win (4 : Fin 6)).index t a * S1x1x1024.size a + 1 * ((ix3 (0 : Fin 1) (0 : Fin 1) l : S1x1x1024.Idx) a).val = _
  rw [index_4]
  match a with
  | ⟨0, _⟩ => show T.expert (at304 T t) * 1 + 1 * 0 = T.expert (at304 T t); omega
  | ⟨1, _⟩ => rfl
  | ⟨2, _⟩ => show 0 * 1024 + 1 * l.val = l.val; omega

/-! ## A point's result -/

/-- The experts' layer on the memory's arguments. -/
abbrev layer (r : Fin 77824) (e : Fin 32) (l : Fin 1024) : EReal :=
  second (m ((c : Thread nD τ).loc main_arg2)) (m ((c : Thread nD τ).loc main_arg3)) (m ((c : Thread nD τ).loc main_arg4))
    (m ((c : Thread nD τ).loc main_arg5)) (m ((c : Thread nD τ).loc main_arg6)) r e l

theorem first_blk (h : t.val < T.na) (q : Fin 256) (k : Fin 2048) (hr : t.val * 256 + q.val < 77824) :
    k0_pay4 (F := Ideal) (iblk T m ρ c (0 : Fin 6) t) (gateUp T m ρ c t) (iblk T m ρ c (2 : Fin 6) t) (ix2 q k)
      = first (m ((c : Thread nD τ).loc main_arg2)) (m ((c : Thread nD τ).loc main_arg3)) (m ((c : Thread nD τ).loc main_arg4))
          ⟨t.val * 256 + q.val, hr⟩ (expertAt T (at304 T t)) k := by
  rw [pay4_at, bias_blk]
  unfold first
  refine congrArg (· + _) (Finset.sum_congr rfl fun j _ => ?_)
  rw [rows_blk T m ρ c t h q j hr, gateUp, pay2_at, weights_blk]

theorem result_blk (h : t.val < T.na) (q : Fin 256) (l : Fin 1024) (hr : t.val * 256 + q.val < 77824) :
    result T m ρ c t (ix2 q l) = layer m c ⟨t.val * 256 + q.val, hr⟩ (expertAt T (at304 T t)) l := by
  unfold result ffn layer second
  rw [pay1_at, bias2_blk]
  refine congrArg (· + _) (Finset.sum_congr rfl fun k _ => ?_)
  rw [pay5_at, pay6_at, first_blk T m ρ c t h q _ hr, first_blk T m ρ c t h q _ hr, down, pay3_at, weights2_blk]
  rfl

end

/-! ## The result's array -/

/-- What the result's array holds in its active rows: the layer of the row's expert. -/
def G (i : S77824x1024.Idx) : EReal :=
  layer m c (i 0) (expertAt T ⟨(i 0).val / 256, by have : (i 0).val < 77824 := (i 0).isLt; omega⟩) (i 1)

theorem flushed (t : Fin (cfgA Ideal T).N) (ht : ((cfgA Ideal T).win (5 : Fin 6)).flush t = true) :
    (dats T m ρ 0 c).flushed (5 : Fin 6) t = (((cfgA Ideal T).win (5 : Fin 6)).blk t).view.read (Elt Ideal) (G T m c) := by
  have hp := T.na_pos
  have hle := T.na_le
  have h304 := lt304 T t
  rw [flush_5] at ht
  funext y
  obtain ⟨q, l, rfl⟩ : ∃ (q : Fin 256) (l : Fin 1024), y = ix2 q l := ⟨y 0, y 1, by ext a; fin_cases a <;> rfl⟩
  have hs : (held_at (F := Ideal) T t.val).val = min t.val (T.na - 1) := rfl
  have hr : (held_at (F := Ideal) T t.val).val * 256 + q.val < 77824 := by omega
  show result T m ρ c (held_at T t.val) (ix2 q l) = G T m c ((((cfgA Ideal T).win (5 : Fin 6)).blk t).view.emb (ix2 q l))
  rw [result_blk T m ρ c _ (by omega) q l hr]
  have hi : (((cfgA Ideal T).win (5 : Fin 6)).blk t).view.emb (ix2 q l)
      = (ix2 (⟨(held_at (F := Ideal) T t.val).val * 256 + q.val, hr⟩ : Fin 77824) l : S77824x1024.Idx) := by
    refine funext fun a => Fin.ext ?_
    match a with
    | ⟨0, _⟩ =>
      show ((cfgA Ideal T).win (5 : Fin 6)).index t (0 : Fin 2) * 256 + 1 * q.val = _
      rw [index_5]
      show min t.val (T.na - 1) * 256 + 1 * q.val = min t.val (T.na - 1) * 256 + q.val
      omega
    | ⟨1, _⟩ =>
      show ((cfgA Ideal T).win (5 : Fin 6)).index t (1 : Fin 2) * 1024 + 1 * l.val = l.val
      rw [index_5]
      show 0 * 1024 + 1 * l.val = _
      omega
  rw [hi]
  unfold G
  refine congrArg (fun e => layer m c _ e l) (congrArg (expertAt T) (Fin.ext ?_))
  show (held_at (F := Ideal) T t.val).val = ((held_at (F := Ideal) T t.val).val * 256 + q.val) / 256
  omega

/-- In its active rows the result's array holds the layer of the row's expert. -/
theorem array_at (i : S77824x1024.Idx) (h : (i 0).val < T.na * 256) :
    (dats T m ρ 0 c).arrAt (5 : Fin 6) (cfgA Ideal T).N i = G T m c i := by
  have hle := T.na_le
  obtain ⟨r, l, rfl⟩ : ∃ (r : Fin 77824) (l : Fin 1024), i = ix2 r l := ⟨i 0, i 1, by ext a; fin_cases a <;> rfl⟩
  have h : r.val < T.na * 256 := h
  obtain ⟨t, hf, hm⟩ : ∃ t : Fin (cfgA Ideal T).N, (t.val + 1 < T.na ∨ t.val = 303) ∧ min t.val (T.na - 1) = r.val / 256 := by
    by_cases hb : r.val / 256 + 1 < T.na
    · exact ⟨⟨r.val / 256, show r.val / 256 < 304 by omega⟩, Or.inl hb, show min (r.val / 256) (T.na - 1) = _ by omega⟩
    · exact ⟨⟨303, show 303 < 304 by omega⟩, Or.inr rfl, show min 303 (T.na - 1) = _ by omega⟩
  refine (dats T m ρ 0 c).arrAt_apply_of_mem (5 : Fin 6) (G T m c) (flushed T m ρ c) _ t _ t.isLt ((flush_5 T t).2 hf) ?_
  have he : (((cfgA Ideal T).win (5 : Fin 6)).blk t).view.emb (ix2 (⟨r.val % 256, Nat.mod_lt _ (by decide)⟩ : Fin 256) l) = ix2 r l := by
    refine funext fun a => Fin.ext ?_
    match a with
    | ⟨0, _⟩ =>
      show ((cfgA Ideal T).win (5 : Fin 6)).index t (0 : Fin 2) * 256 + 1 * (r.val % 256) = r.val
      rw [index_5]
      show min t.val (T.na - 1) * 256 + 1 * (r.val % 256) = r.val
      omega
    | ⟨1, _⟩ =>
      show ((cfgA Ideal T).win (5 : Fin 6)).index t (1 : Fin 2) * 1024 + 1 * l.val = l.val
      rw [index_5]
      show 0 * 1024 + 1 * l.val = _
      omega
  rw [← he]
  exact View.emb_mem_set _ _

end Cert.ExpertsIdeal.Run

end
-- ==== Proof.ProjHost.lean ====
/- What the projections call is launched on, read at one place of the arguments. -/
module

public import proofs.«01_k».proof.Proof.Gen.ProjectionsIdeal.Value
public import Idealize.ShloMosaic.Lib.Pipeline.ValueKit
public import Idealize.ShloMosaic.Lib.Pointwise
public import Idealize.ShloMosaic.Lib.StableHlo.ReadAt

@[expose] public section

set_option maxRecDepth 16384

noncomputable section

namespace Cert.ProjectionsIdeal.Proj

open Idealize.ShloMosaic Idealize.ShloMosaic.TcCoe Idealize.SL.Sem
open Cert.ProjectionsIdeal Cert.ProjectionsIdeal.Gen

variable (m : (ℓ : Loc nD τ sig) → Buf (Elt Ideal) ℓ)

/-- The arguments, of one device. -/
def arg0 (c : Dev nD) : FVec Ideal S2x8192x1024 .f32 := m ((c : Thread nD τ).loc main_arg0)
def arg1 (c : Dev nD) : FVec Ideal S128x8x1024 .f32 := m ((c : Thread nD τ).loc main_arg1)
def arg2 (c : Dev nD) : FVec Ideal S1x1024 .f32 := m ((c : Thread nD τ).loc main_arg2)
def arg3 (c : Dev nD) : FVec Ideal S1x1024x2832 .f32 := m ((c : Thread nD τ).loc main_arg3)
def arg4 (c : Dev nD) : FVec Ideal S1x8 .f32 := m ((c : Thread nD τ).loc main_arg4)
def arg5 (c : Dev nD) : FVec Ideal S1x8 .f32 := m ((c : Thread nD τ).loc main_arg5)

/-- The arrays the call reads: the tokens of the prompts and of the samples, the scale, the weights of the rows' results, of the keys
and of both layouts of the gates, and the gates' biases in both layouts. -/
def prompts (c : Dev nD) : FVec Ideal S16384x1024 .f32 := V m c main_v0
def samples (c : Dev nD) : FVec Ideal S1024x1024 .f32 := V m c main_v1
def scale (c : Dev nD) : FVec Ideal S1x1024 .f32 := V m c main_v28
def rowWeights (c : Dev nD) : FVec Ideal S1024x2304 .bf16 := V m c main_v10
def keyWeights (c : Dev nD) : FVec Ideal S512x1024 .bf16 := V m c main_v13
def gateRowWeights (c : Dev nD) : FVec Ideal S1024x128 .bf16 := V m c main_v18
def gateColumnWeights (c : Dev nD) : FVec Ideal S16x1024 .bf16 := V m c main_v20
def rowBias (c : Dev nD) : FVec Ideal S1x128 .f32 := V m c main_v25
def columnBias (c : Dev nD) : FVec Ideal S16x1 .f32 := V m c main_v26

theorem prompts_at (c : Dev nD) (r : Fin 16384) (k : Fin 1024) :
    prompts m c (ix2 r k) = arg0 m c (ix3 ⟨r.val / 8192, by omega⟩ ⟨r.val % 8192, by omega⟩ k) := by
  unfold prompts V; after_reads_at; rfl

theorem samples_at (c : Dev nD) (r : Fin 1024) (k : Fin 1024) :
    samples m c (ix2 r k) = arg1 m c (ix3 ⟨r.val / 8, by omega⟩ ⟨r.val % 8, by omega⟩ k) := by
  unfold samples V; after_reads_at; rfl

theorem scale_at (c : Dev nD) (k : Fin 1024) : scale m c (ix2 0 k) = arg2 m c (ix2 0 k) := by
  unfold scale V; after_reads_at; rfl

/-- The padding: the number of the word zero. -/
theorem zero_word : (FloatOps.sitofp FTy.f32 0#32 : Ideal .f32) = (0 : EReal) := by
  show ((BitVec.toInt 0#32 : ℝ) : EReal) = 0
  simp

/-- The weights of the rows' results: six runs of columns of the weights. -/
theorem rowWeights_0 (c : Dev nD) (k : Fin 1024) (d : Fin 512) :
    rowWeights m c (ix2 k ⟨d.val, by omega⟩) = arg3 m c (ix3 0 k ⟨d.val, by omega⟩) := by
  unfold rowWeights V; after_reads_at
  after_reads_at; rfl

theorem rowWeights_512 (c : Dev nD) (k : Fin 1024) (d : Fin 512) :
    rowWeights m c (ix2 k ⟨512 + d.val, by omega⟩) = arg3 m c (ix3 0 k ⟨1024 + d.val, by omega⟩) := by
  unfold rowWeights V; after_reads_at
  after_reads_at; rfl

theorem rowWeights_1024 (c : Dev nD) (k : Fin 1024) (d : Fin 512) :
    rowWeights m c (ix2 k ⟨1024 + d.val, by omega⟩) = arg3 m c (ix3 0 k ⟨1536 + d.val, by omega⟩) := by
  unfold rowWeights V; after_reads_at
  simp only [show ¬ 1024 + d.val < 512 by omega, show ¬ 1024 + d.val - 512 < 512 by omega, show 1024 + d.val - 512 - 512 = d.val by omega, d.isLt, ↓reduceDIte]
  after_reads_at; rfl

theorem rowWeights_1536 (c : Dev nD) (k : Fin 1024) (d : Fin 512) :
    rowWeights m c (ix2 k ⟨1536 + d.val, by omega⟩) = arg3 m c (ix3 0 k ⟨2064 + d.val, by omega⟩) := by
  unfold rowWeights V; after_reads_at
  simp only [show ¬ 1536 + d.val < 512 by omega, show ¬ 1536 + d.val - 512 < 512 by omega, show ¬ 1536 + d.val - 512 - 512 < 512 by omega, show 1536 + d.val - 512 - 512 - 512 = d.val by omega, d.isLt, ↓reduceDIte]
  after_reads_at; rfl

theorem rowWeights_2048 (c : Dev nD) (k : Fin 1024) (d : Fin 128) :
    rowWeights m c (ix2 k ⟨2048 + d.val, by omega⟩) = arg3 m c (ix3 0 k ⟨2576 + d.val, by omega⟩) := by
  unfold rowWeights V; after_reads_at
  simp only [show ¬ 2048 + d.val < 512 by omega, show ¬ 2048 + d.val - 512 < 512 by omega, show ¬ 2048 + d.val - 512 - 512 < 512 by omega, show ¬ 2048 + d.val - 512 - 512 - 512 < 512 by omega, show 2048 + d.val - 512 - 512 - 512 - 512 = d.val by omega, d.isLt, ↓reduceDIte]
  after_reads_at; rfl

theorem rowWeights_2176 (c : Dev nD) (k : Fin 1024) (d : Fin 128) :
    rowWeights m c (ix2 k ⟨2176 + d.val, by omega⟩) = arg3 m c (ix3 0 k ⟨2704 + d.val, by omega⟩) := by
  unfold rowWeights V; after_reads_at
  simp only [show ¬ 2176 + d.val < 512 by omega, show ¬ 2176 + d.val - 512 < 512 by omega, show ¬ 2176 + d.val - 512 - 512 < 512 by omega, show ¬ 2176 + d.val - 512 - 512 - 512 < 512 by omega, show ¬ 2176 + d.val - 512 - 512 - 512 - 512 < 128 by omega, show 2176 + d.val - 512 - 512 - 512 - 512 - 128 = d.val by omega, d.isLt, ↓reduceDIte]
  after_reads_at; rfl

theorem keyWeights_at (c : Dev nD) (k : Fin 1024) (d : Fin 512) :
    keyWeights m c (ix2 d k) = arg3 m c (ix3 0 k ⟨512 + d.val, by omega⟩) := by
  unfold keyWeights V; after_reads_at; rfl

/-- The gates' weights by row: their columns, and zeros. -/
theorem gateRowWeights_at (c : Dev nD) (k : Fin 1024) (d : Fin 128) :
    gateRowWeights m c (ix2 k d) = if h : d.val < 16 then arg3 m c (ix3 0 k ⟨2048 + d.val, by omega⟩) else 0 := by
  unfold gateRowWeights V; after_reads_at
  split_ifs with h h' <;> first
    | exact absurd rfl ‹_›
    | exact zero_word
    | (after_reads_at; rfl)
    | (after_reads_at; exact congrArg (fun x => arg3 m c (ix3 0 k x)) (Fin.ext (by simp only; omega)))

theorem gateColumnWeights_at (c : Dev nD) (k : Fin 1024) (d : Fin 16) :
    gateColumnWeights m c (ix2 d k) = arg3 m c (ix3 0 k ⟨2048 + d.val, by omega⟩) := by
  unfold gateColumnWeights V; after_reads_at
  split_ifs with h <;> first
    | exact absurd rfl ‹_›
    | rfl
    | (after_reads_at; rfl)
    | exact congrArg (fun x => arg3 m c (ix3 0 k x)) (Fin.ext (by simp only; omega))
    | (after_reads_at; exact congrArg (fun x => arg3 m c (ix3 0 k x)) (Fin.ext (by simp only; omega)))

/-- The gates' biases: eight of the input gates, eight of the forget gates. -/
def bias (c : Dev nD) (d : Fin 16) : EReal :=
  if h : d.val < 8 then arg4 m c (ix2 0 ⟨d.val, h⟩) else arg5 m c (ix2 0 ⟨d.val - 8, by omega⟩)

theorem rowBias_at (c : Dev nD) (d : Fin 128) : rowBias m c (ix2 0 d) = if h : d.val < 16 then bias m c ⟨d.val, h⟩ else 0 := by
  unfold rowBias V; after_reads_at
  unfold bias
  split_ifs with h h' <;> first
    | exact absurd rfl ‹_›
    | exact zero_word
    | (after_reads_at; rfl)

theorem columnBias_at (c : Dev nD) (d : Fin 16) : columnBias m c (ix2 d 0) = bias m c d := by
  unfold columnBias V bias; after_reads_at
  split_ifs <;> first
    | exact absurd rfl ‹_›
    | (after_reads_at; rfl)

end Cert.ProjectionsIdeal.Proj
-- ==== Proof.ProjCore.lean ====
/- A projection of a normalized row, and a gate's logarithm of a sigmoid in its two spellings. -/
module

public import Idealize.ShloMosaic.Lib.Pointwise
public import Idealize.ShloMosaic.Lib.KernelVsHost

@[expose] public section

noncomputable section

namespace Cert.Proj

open Idealize.ShloMosaic

/-- A row divided by the root of its mean square, scaled. -/
def normal {n : ℕ} (x g : Fin n → EReal) (k : Fin n) : EReal :=
  x k * Ideal.rsqrt (Ideal.div (∑ j, x j * x j) (Ideal.ofBits FTy.f32 0x44800000#32) + Ideal.ofBits FTy.f32 0x3727C5AC#32) * g k

/-- The normalized row against one column of weights. -/
def project {n : ℕ} (x g w : Fin n → EReal) : EReal := ∑ k, normal x g k * w k

/-- The logarithm of the sigmoid: the smaller of the gate and zero, less a logarithm. -/
def logSigmoid (z : EReal) : EReal := min z 0 - Ideal.log (1 + Ideal.exp (0 - FloatOps.absf (F := Ideal) (φ := FTy.f32) z))

theorem log_one_add_exp_ne_bot (x : EReal) : Ideal.log (1 + Ideal.exp x) ≠ ⊥ := by
  induction x with
  | bot =>
    show Ideal.log ((1 : ℝ) + ((0 : ℝ) : EReal)) ≠ ⊥
    rw [← EReal.coe_add]
    show (if (1 + 0 : ℝ) ≤ 0 then ⊥ else ((Real.log (1 + 0) : ℝ) : EReal)) ≠ ⊥
    rw [if_neg (by norm_num)]
    exact EReal.coe_ne_bot _
  | top =>
    show Ideal.log ((1 : ℝ) + ⊤) ≠ ⊥
    rw [EReal.coe_add_top]
    exact top_ne_bot
  | coe r =>
    show Ideal.log ((1 : ℝ) + ((Real.exp r : ℝ) : EReal)) ≠ ⊥
    rw [← EReal.coe_add]
    have : ¬ (1 + Real.exp r ≤ 0) := by have := Real.exp_pos r; linarith
    show (if 1 + Real.exp r ≤ 0 then ⊥ else ((Real.log (1 + Real.exp r) : ℝ) : EReal)) ≠ ⊥
    rw [if_neg this]
    exact EReal.coe_ne_bot _

/-- The same, as the negated softplus of the negated gate. -/
theorem negated_softplus (z : EReal) :
    (-if -z ≠ -z then -z else max (-z) 0 + Ideal.log1p (Ideal.exp (-FloatOps.absf (F := Ideal) (φ := FTy.f32) (-z)))) = logSigmoid z := by
  rw [if_neg (by simp)]
  unfold logSigmoid Ideal.log1p
  have ha : FloatOps.absf (F := Ideal) (φ := FTy.f32) (-z) = FloatOps.absf (F := Ideal) (φ := FTy.f32) z := by
    show max (-z) (- -z) = max z (-z)
    rw [neg_neg, max_comm]
  rw [ha, zero_sub]
  have hl := log_one_add_exp_ne_bot (-FloatOps.absf (F := Ideal) (φ := FTy.f32) z)
  generalize Ideal.log _ = l at hl ⊢
  have h0 : max (-z) 0 ≠ ⊥ := ne_of_gt (lt_of_lt_of_le (EReal.bot_lt_coe 0) (le_max_right _ _))
  rw [EReal.neg_add (.inl h0) (.inr hl)]
  congr 1
  rcases le_total z 0 with h | h
  · rw [min_eq_left h, max_eq_left (by simpa using EReal.neg_le_neg_iff.mpr h), neg_neg]
  · rw [min_eq_right h, max_eq_right (by simpa using EReal.neg_le_neg_iff.mpr h), neg_zero]

end Cert.Proj
-- ==== Proof.ProjRef.lean ====
/- The reference's projections read at one token and one column. -/
module

public import proofs.«01_k».proof.Proof.Gen.ProjectionsReferenceIdeal.Run
public import Idealize.ShloMosaic.Lib.Pointwise
public import proofs.«01_k».proof.Proof.ProjCore

@[expose] public section

set_option maxRecDepth 16384

noncomputable section

namespace Cert.ProjectionsReferenceIdeal.Proj

open Idealize.ShloMosaic Idealize.ShloMosaic.TcCoe Idealize.SL.Sem
open Cert.ProjectionsReferenceIdeal Cert.ProjectionsReferenceIdeal.Gen Cert.Proj

/-- The tokens of the prompts, then those of the samples. -/
def tokens (A0 : FVec Ideal S2x8192x1024 .f32) (A1 : FVec Ideal S128x8x1024 .f32) : FVec Ideal S17408x1024 .f32 :=
  concatenate S17408x1024 0 [⟨S16384x1024, (shapeCast _ A0 shapeCasts_S2x8192x1024_S16384x1024)⟩,
    ⟨S1024x1024, (shapeCast _ A1 shapeCasts_S128x8x1024_S1024x1024)⟩] concatenates_S16384x1024_S1024x1024_S17408x1024_d0

/-- The normalized tokens. -/
def hidden (x : FVec Ideal S17408x1024 .f32) (g : FVec Ideal S1x1024 .f32) : FVec Ideal S17408x1024 .f32 :=
  mulf (mulf x (broadcastInDim S17408x1024 ![0, 1] bcast_S17408x1_S17408x1024_0_1 (Host.rsqrt (addf (Host.divf
    (broadcastInDim S17408x1 ![0] bcast_S17408_S17408x1_0 (Host.reduceAdd (mulf x x) (constant S_ .f32 0x00000000#32)
    reducesTo_S17408x1024_S17408_d1 h_S_)) (broadcastInDim S17408x1 ![] bcast_S_S17408x1 (constant S_ .f32 0x44800000#32)))
    (broadcastInDim S17408x1 ![] bcast_S_S17408x1 (constant S_ .f32 0x3727C5AC#32)))))) (broadcastInDim S17408x1024 ![0, 1]
    bcast_S1x1024_S17408x1024_0_1 (broadcastInDim S1x1024 ![1] bcast_S1024_S1x1024_1 (shapeCast _ g shapeCasts_S1x1024_S1024)))

/-- Normalized tokens against all the weights. -/
def product (h : FVec Ideal S17408x1024 .f32) (w : FVec Ideal S1x1024x2832 .f32) : FVec Ideal S17408x2832 .f32 :=
  Host.dotGeneral dot_S17408x1024_S1024x2832_S17408x2832_1_0_0_1_n_n none h (shapeCast _ w shapeCasts_S1x1024x2832_S1024x2832)

/-- All the projections. -/
def projected (A0 : FVec Ideal S2x8192x1024 .f32) (A1 : FVec Ideal S128x8x1024 .f32) (A2 : FVec Ideal S1x1024 .f32)
    (A3 : FVec Ideal S1x1024x2832 .f32) : FVec Ideal S17408x2832 .f32 :=
  product (hidden (tokens A0 A1) A2) A3

/-- The columns from 2048: the input gates, with their biases. -/
def inputGates (p : FVec Ideal S17408x2832 .f32) (b : FVec Ideal S1x8 .f32) : FVec Ideal S17408x8 .f32 :=
  addf (extractStridedSlice S17408x8 ![0, 2048] p slices_S17408x2832_S17408x8_0_2048) (broadcastInDim S17408x8 ![0, 1]
    bcast_S1x8_S17408x8_0_1 (broadcastInDim S1x8 ![1] bcast_S8_S1x8_1 (shapeCast _ b shapeCasts_S1x8_S8)))

/-- The columns from 2056: the forget gates, with their biases. -/
def forgetGates (p : FVec Ideal S17408x2832 .f32) (b : FVec Ideal S1x8 .f32) : FVec Ideal S17408x8 .f32 :=
  addf (extractStridedSlice S17408x8 ![0, 2056] p slices_S17408x2832_S17408x8_0_2056) (broadcastInDim S17408x8 ![0, 1]
    bcast_S1x8_S17408x8_0_1 (broadcastInDim S1x8 ![1] bcast_S8_S1x8_1 (shapeCast _ b shapeCasts_S1x8_S8)))

/-- The softplus of the negated values, negated; `z` is zero everywhere. -/
def negatedSoftplus {s : Shape} (x z : FVec Ideal s .f32) : FVec Ideal s .f32 :=
  Host.negf (select (cmpf .une (subf (Host.negf x) z) (subf (Host.negf x) z)) (addf (Host.negf x) z)
    (addf (maximumf (Host.negf x) z) (Host.log1p (Host.exp (Host.negf (Host.absf (subf (Host.negf x) z)))))))

def zero8 : FVec Ideal S17408x8 .f32 := broadcastInDim S17408x8 ![] bcast_S_S17408x8 (constant S_ .f32 0x00000000#32)
def zero112 : FVec Ideal S17408x112 .f32 := broadcastInDim S17408x112 ![] bcast_S_S17408x112 (constant S_ .f32 0x00000000#32)

/-- The gates of every token: eight, eight and 112 that nothing reads. -/
def beside (i f : FVec Ideal S17408x8 .f32) (u : FVec Ideal S17408x112 .f32) : FVec Ideal S17408x128 .f32 :=
  concatenate S17408x128 1 [⟨S17408x8, i⟩, ⟨S17408x8, f⟩, ⟨S17408x112, u⟩] concatenates_S17408x8_S17408x8_S17408x112_S17408x128_d1

/-- The gates by gate: eight, then eight. -/
def stacked (i f : FVec Ideal S17408x8 .f32) : FVec Ideal S16x17408 .f32 :=
  transpose S16x17408 [1, 0] (concatenate S17408x16 1 [⟨S17408x8, i⟩, ⟨S17408x8, f⟩] concatenates_S17408x8_S17408x8_S17408x16_d1)
    transposes_S17408x16_S16x17408_1_0

/-- The results. -/
def result0 (p : FVec Ideal S17408x2832 .f32) : FVec Ideal S17408x512 .f32 :=
  extractStridedSlice S17408x512 ![0, 0] p slices_S17408x2832_S17408x512_0_0
def result1 (p : FVec Ideal S17408x2832 .f32) : FVec Ideal S17408x512 .f32 :=
  extractStridedSlice S17408x512 ![0, 1024] p slices_S17408x2832_S17408x512_0_1024
def result2 (p : FVec Ideal S17408x2832 .f32) : FVec Ideal S17408x512 .f32 :=
  extractStridedSlice S17408x512 ![0, 1536] p slices_S17408x2832_S17408x512_0_1536
def result3 (p : FVec Ideal S17408x2832 .f32) : FVec Ideal S17408x512 .f32 :=
  extractStridedSlice S17408x512 ![0, 2064] p slices_S17408x2832_S17408x512_0_2064
def result4 (p : FVec Ideal S17408x2832 .f32) : FVec Ideal S17408x128 .f32 :=
  extractStridedSlice S17408x128 ![0, 2576] p slices_S17408x2832_S17408x128_0_2576
def result5 (p : FVec Ideal S17408x2832 .f32) : FVec Ideal S17408x128 .f32 :=
  extractStridedSlice S17408x128 ![0, 2704] p slices_S17408x2832_S17408x128_0_2704
def result6 (p : FVec Ideal S17408x2832 .f32) : FVec Ideal S512x17408 .f32 :=
  transpose S512x17408 [1, 0] (mulf (extractStridedSlice S17408x512 ![0, 512] p slices_S17408x2832_S17408x512_0_512)
    (broadcastInDim S17408x512 ![] bcast_S_S17408x512 (constant S_ .f32 0x3E000000#32))) transposes_S17408x512_S512x17408_1_0
def result7 (p : FVec Ideal S17408x2832 .f32) (A4 A5 : FVec Ideal S1x8 .f32) : FVec Ideal S17408x128 .f32 :=
  beside (inputGates p A4) (negatedSoftplus (forgetGates p A5) zero8) (negatedSoftplus zero112 zero112)
def result8 (p : FVec Ideal S17408x2832 .f32) (A4 A5 : FVec Ideal S1x8 .f32) : FVec Ideal S16x17408 .f32 :=
  stacked (inputGates p A4) (negatedSoftplus (forgetGates p A5) zero8)

/-- The projections of the arguments of one device. -/
def P (m : (ℓ : Loc nD τ sig) → Buf (Elt Ideal) ℓ) (c : Dev nD) : FVec Ideal S17408x2832 .f32 :=
  projected (m ((c.tc : Thread nD τ).loc main_arg0)) (m ((c.tc : Thread nD τ).loc main_arg1)) (m ((c.tc : Thread nD τ).loc main_arg2))
    (m ((c.tc : Thread nD τ).loc main_arg3))

/-- A token's entries. -/
def token (A0 : FVec Ideal S2x8192x1024 .f32) (A1 : FVec Ideal S128x8x1024 .f32) (r : Fin 17408) (k : Fin 1024) : EReal :=
  if h : r.val < 16384 then A0 (ix3 ⟨r.val / 8192, by omega⟩ ⟨r.val % 8192, by omega⟩ k)
  else A1 (ix3 ⟨(r.val - 16384) / 8, by omega⟩ ⟨(r.val - 16384) % 8, by omega⟩ k)

theorem tokens_at (A0 : FVec Ideal S2x8192x1024 .f32) (A1 : FVec Ideal S128x8x1024 .f32) (r : Fin 17408) (k : Fin 1024) :
    tokens A0 A1 (ix2 r k) = token A0 A1 r k := by
  pointwise [tokens, token]

theorem hidden_at (x : FVec Ideal S17408x1024 .f32) (g : FVec Ideal S1x1024 .f32) (r : Fin 17408) (k : Fin 1024) :
    hidden x g (ix2 r k) = normal (fun k => x (ix2 r k)) (fun k => g (ix2 0 k)) k := by
  pointwise [hidden, normal]

theorem product_at (h : FVec Ideal S17408x1024 .f32) (w : FVec Ideal S1x1024x2832 .f32) (r : Fin 17408) (c : Fin 2832) :
    product h w (ix2 r c) = ∑ k, h (ix2 r k) * w (ix3 0 k c) := by
  pointwise [product]

theorem projected_at (A0 : FVec Ideal S2x8192x1024 .f32) (A1 : FVec Ideal S128x8x1024 .f32) (A2 : FVec Ideal S1x1024 .f32)
    (A3 : FVec Ideal S1x1024x2832 .f32) (r : Fin 17408) (c : Fin 2832) :
    projected A0 A1 A2 A3 (ix2 r c) = project (token A0 A1 r) (fun k => A2 (ix2 0 k)) (fun k => A3 (ix3 0 k c)) := by
  rw [projected, product_at]
  simp only [hidden_at, tokens_at]
  rfl

theorem inputGates_at (p : FVec Ideal S17408x2832 .f32) (b : FVec Ideal S1x8 .f32) (r : Fin 17408) (j : Fin 8) :
    inputGates p b (ix2 r j) = p (ix2 r ⟨2048 + j.val, by omega⟩) + b (ix2 0 j) := by
  pointwise [inputGates]

theorem forgetGates_at (p : FVec Ideal S17408x2832 .f32) (b : FVec Ideal S1x8 .f32) (r : Fin 17408) (j : Fin 8) :
    forgetGates p b (ix2 r j) = p (ix2 r ⟨2056 + j.val, by omega⟩) + b (ix2 0 j) := by
  pointwise [forgetGates]

theorem softplus8_at (x : FVec Ideal S17408x8 .f32) (r : Fin 17408) (j : Fin 8) :
    negatedSoftplus x zero8 (ix2 r j) = logSigmoid (x (ix2 r j)) := by
  refine Eq.trans ?_ (negated_softplus _)
  pointwise [negatedSoftplus, zero8]

theorem softplus112_at (r : Fin 17408) (j : Fin 112) : negatedSoftplus zero112 zero112 (ix2 r j) = logSigmoid 0 := by
  refine Eq.trans ?_ (negated_softplus _)
  pointwise [negatedSoftplus, zero112]

/-- A gate of a token: of an input gate itself, of a forget gate the logarithm of its sigmoid. -/
def gate (p : FVec Ideal S17408x2832 .f32) (A4 A5 : FVec Ideal S1x8 .f32) (r : Fin 17408) (j : Fin 16) : EReal :=
  if h : j.val < 8 then p (ix2 r ⟨2048 + j.val, by omega⟩) + A4 (ix2 0 ⟨j.val, h⟩)
  else logSigmoid (p (ix2 r ⟨2048 + j.val, by omega⟩) + A5 (ix2 0 ⟨j.val - 8, by omega⟩))

theorem beside_at (i f : FVec Ideal S17408x8 .f32) (u : FVec Ideal S17408x112 .f32) (r : Fin 17408) (j : Fin 128) :
    beside i f u (ix2 r j) = if h : j.val < 8 then i (ix2 r ⟨j.val, h⟩) else if h' : j.val - 8 < 8 then f (ix2 r ⟨j.val - 8, h'⟩)
      else u (ix2 r ⟨j.val - 8 - 8, by omega⟩) := by
  pointwise [beside]

theorem stacked_at (i f : FVec Ideal S17408x8 .f32) (r : Fin 17408) (j : Fin 16) :
    stacked i f (ix2 j r) = if h : j.val < 8 then i (ix2 r ⟨j.val, h⟩) else f (ix2 r ⟨j.val - 8, by omega⟩) := by
  pointwise [stacked]

theorem forget_column (p : FVec Ideal S17408x2832 .f32) (r : Fin 17408) (j : ℕ) (h : ¬ j < 8) (h' : j < 16) :
    p (ix2 r ⟨2056 + (j - 8), by omega⟩) = p (ix2 r ⟨2048 + j, by omega⟩) :=
  congrArg (fun x => p (ix2 r x)) (Fin.ext (by simp only; omega))

theorem result7_at (p : FVec Ideal S17408x2832 .f32) (A4 A5 : FVec Ideal S1x8 .f32) (r : Fin 17408) (j : Fin 128) :
    result7 p A4 A5 (ix2 r j) = if h : j.val < 16 then gate p A4 A5 r ⟨j.val, h⟩ else logSigmoid 0 := by
  rw [result7, beside_at]
  unfold gate
  by_cases h : j.val < 8
  · rw [dif_pos h, dif_pos (by omega), dif_pos h, inputGates_at]
  · rw [dif_neg h]
    by_cases h' : j.val < 16
    · rw [dif_pos (by omega), dif_pos h', dif_neg h, softplus8_at, forgetGates_at, forget_column p r j.val h h']
    · rw [dif_neg (by omega), dif_neg h', softplus112_at]

theorem result8_at (p : FVec Ideal S17408x2832 .f32) (A4 A5 : FVec Ideal S1x8 .f32) (r : Fin 17408) (j : Fin 16) :
    result8 p A4 A5 (ix2 j r) = gate p A4 A5 r j := by
  rw [result8, stacked_at]
  unfold gate
  by_cases h : j.val < 8
  · rw [dif_pos h, dif_pos h, inputGates_at]
  · rw [dif_neg h, dif_neg h, softplus8_at, forgetGates_at, forget_column p r j.val h j.isLt]

theorem result0_at (p : FVec Ideal S17408x2832 .f32) (r : Fin 17408) (d : Fin 512) :
    result0 p (ix2 r d) = p (ix2 r ⟨d.val, by omega⟩) := by
  pointwise [result0]

theorem result1_at (p : FVec Ideal S17408x2832 .f32) (r : Fin 17408) (d : Fin 512) :
    result1 p (ix2 r d) = p (ix2 r ⟨1024 + d.val, by omega⟩) := by
  pointwise [result1]

theorem result2_at (p : FVec Ideal S17408x2832 .f32) (r : Fin 17408) (d : Fin 512) :
    result2 p (ix2 r d) = p (ix2 r ⟨1536 + d.val, by omega⟩) := by
  pointwise [result2]

theorem result3_at (p : FVec Ideal S17408x2832 .f32) (r : Fin 17408) (d : Fin 512) :
    result3 p (ix2 r d) = p (ix2 r ⟨2064 + d.val, by omega⟩) := by
  pointwise [result3]

theorem result4_at (p : FVec Ideal S17408x2832 .f32) (r : Fin 17408) (d : Fin 128) :
    result4 p (ix2 r d) = p (ix2 r ⟨2576 + d.val, by omega⟩) := by
  pointwise [result4]

theorem result5_at (p : FVec Ideal S17408x2832 .f32) (r : Fin 17408) (d : Fin 128) :
    result5 p (ix2 r d) = p (ix2 r ⟨2704 + d.val, by omega⟩) := by
  pointwise [result5]

theorem result6_at (p : FVec Ideal S17408x2832 .f32) (r : Fin 17408) (d : Fin 512) :
    result6 p (ix2 d r) = p (ix2 r ⟨512 + d.val, by omega⟩) * Ideal.ofBits .f32 0x3E000000#32 := by
  pointwise [result6]

/-- The reference's run: its results, of the projections, and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = result0 (P m c)
      ∧ r.2.mem ((c.tc : Thread nD τ).loc main_v21) = result1 (P m c)
      ∧ r.2.mem ((c.tc : Thread nD τ).loc main_v22) = result2 (P m c)
      ∧ r.2.mem ((c.tc : Thread nD τ).loc main_v25) = result3 (P m c)
      ∧ r.2.mem ((c.tc : Thread nD τ).loc main_v26) = result4 (P m c)
      ∧ r.2.mem ((c.tc : Thread nD τ).loc main_v27) = result5 (P m c)
      ∧ r.2.mem ((c.tc : Thread nD τ).loc main_v41) = result6 (P m c)
      ∧ r.2.mem ((c.tc : Thread nD τ).loc main_v42) = result7 (P m c) (m ((c.tc : Thread nD τ).loc main_arg4)) (m ((c.tc : Thread nD τ).loc main_arg5))
      ∧ r.2.mem ((c.tc : Thread nD τ).loc main_v44) = result8 (P m c) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Value.run (F := Ideal) m ρ)
  obtain ⟨h0, h1, h2, h3, h4, h5, h6, h7, h8, kept⟩ := h c
  refine ⟨?_, ?_, ?_, ?_, ?_, ?_, ?_, ?_, ?_, kept⟩
  · unfold result0 P projected product hidden tokens
    exact h0
  · unfold result1 P projected product hidden tokens
    exact h1
  · unfold result2 P projected product hidden tokens
    exact h2
  · unfold result3 P projected product hidden tokens
    exact h3
  · unfold result4 P projected product hidden tokens
    exact h4
  · unfold result5 P projected product hidden tokens
    exact h5
  · unfold result6 P projected product hidden tokens
    exact h6
  · unfold result7 P projected product hidden tokens beside inputGates forgetGates negatedSoftplus zero8 zero112
    exact h7
  · unfold result8 P projected product hidden tokens stacked inputGates forgetGates negatedSoftplus zero8
    exact h8

end Cert.ProjectionsReferenceIdeal.Proj
-- ==== Proof.Proj.lean ====
/- The projections call is the reference's: every block it writes, and so its nine results. -/
module

public import proofs.«01_k».proof.Proof.ProjHost
public import proofs.«01_k».proof.Proof.ProjRef
public import Idealize.ShloMosaic.Lib.WordCmp

@[expose] public section

set_option maxRecDepth 16384

noncomputable section

namespace Cert.ProjectionsIdeal.Proj

open Idealize.ShloMosaic Idealize.ShloMosaic.TcCoe Idealize.SL.Sem
open Cert.ProjectionsIdeal Cert.ProjectionsIdeal.Gen Cert.Proj
open Cert.ProjectionsReferenceIdeal.Proj (token projected projected_at gate result0 result1 result2 result3 result4 result5 result6 result7 result8
  result0_at result1_at result2_at result3_at result4_at result5_at result6_at result7_at result8_at)

variable (m : (ℓ : Loc nD τ sig) → Buf (Elt Ideal) ℓ)

/-- The windows' blocks at a grid point: the prompts' rows up to point 31, then the samples'; the weights whole. -/
theorem idx : ∀ t : Fin cfg0.N, win0_0.index t = ![min t.val 31, 0] ∧ win0_1.index t = ![t.val - 32, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![0, t.val] ∧ win0_16.index t = ![t.val, 0] ∧ win0_17.index t = ![0, t.val] :=
  (by decide +kernel : ∀ t : Fin grid0.N, _)

theorem coord : ∀ t : Fin cfg0.N, (grid0.coords t 0).val = t.val :=
  (by decide +kernel : ∀ t : Fin grid0.N, _)

theorem lt34 (t : Fin cfg0.N) : t.val < 34 := t.isLt

theorem unit_at {S : Shape} (o z : Fin S.rank → ℕ) (inb) (x : (Shape.mk S.rank z).Idx) (a : Fin S.rank) :
    ((Rect.unit (s := S) o z inb).idx x a).val = o a + (x a).val := by
  simp only [Rect.idx_unit_val]

theorem ix2_0 {a b : ℕ} (r : Fin a) (l : Fin b) : (ix2 r l 0).val = r.val := rfl
theorem ix2_1 {a b : ℕ} (r : Fin a) (l : Fin b) : (ix2 r l 1).val = l.val := rfl

theorem promptBlock (c : Dev nD) (t : Fin cfg0.N) (r : Fin 512) (k : Fin 1024) :
    View.ld (iblk m c 0 t) r0_0 (ix2 r k) = prompts m c (ix2 ⟨min t.val 31 * 512 + r.val, by omega⟩ k) := by
  rw [View.ld_apply, prompts]
  have := lt34 t
  blk_ext [iblk, idx t] <;> simp only [r0_0, unit_at, ix2_0, ix2_1, Matrix.cons_val_zero, Matrix.cons_val_one] <;> omega

theorem sampleBlock (c : Dev nD) (t : Fin cfg0.N) (r : Fin 512) (k : Fin 1024) :
    View.ld (iblk m c 1 t) r0_0 (ix2 r k) = samples m c (ix2 ⟨(t.val - 32) * 512 + r.val, by have := lt34 t; omega⟩ k) := by
  rw [View.ld_apply, samples]
  have := lt34 t
  blk_ext [iblk, idx t] <;> simp only [r0_0, unit_at, ix2_0, ix2_1, Matrix.cons_val_zero, Matrix.cons_val_one] <;> omega

theorem scaleBlock (c : Dev nD) (t : Fin cfg0.N) : View.ld (iblk m c 2 t) r0_1 = scale m c := by
  funext x
  rw [View.ld_apply, scale]
  blk_ext [iblk, idx t] <;> simp only [r0_1, unit_at, Matrix.cons_val_zero, Matrix.cons_val_one] <;> omega

theorem rowBlock (c : Dev nD) (t : Fin cfg0.N) : View.ld (iblk m c 3 t) r0_2 = rowWeights m c := by
  funext x
  rw [View.ld_apply, rowWeights]
  blk_ext [iblk, idx t] <;> simp only [r0_2, unit_at, Matrix.cons_val_zero, Matrix.cons_val_one] <;> omega

theorem keyBlock (c : Dev nD) (t : Fin cfg0.N) : View.ld (iblk m c 4 t) r0_0 = keyWeights m c := by
  funext x
  rw [View.ld_apply, keyWeights]
  blk_ext [iblk, idx t] <;> simp only [r0_0, unit_at, Matrix.cons_val_zero, Matrix.cons_val_one] <;> omega

theorem gateRowBlock (c : Dev nD) (t : Fin cfg0.N) : View.ld (iblk m c 5 t) r0_5 = gateRowWeights m c := by
  funext x
  rw [View.ld_apply, gateRowWeights]
  blk_ext [iblk, idx t] <;> simp only [r0_5, unit_at, Matrix.cons_val_zero, Matrix.cons_val_one] <;> omega

theorem gateColumnBlock (c : Dev nD) (t : Fin cfg0.N) : View.ld (iblk m c 6 t) r0_7 = gateColumnWeights m c := by
  funext x
  rw [View.ld_apply, gateColumnWeights]
  blk_ext [iblk, idx t] <;> simp only [r0_7, unit_at, Matrix.cons_val_zero, Matrix.cons_val_one] <;> omega

theorem rowBiasBlock (c : Dev nD) (t : Fin cfg0.N) : View.ld (iblk m c 7 t) r0_6 = rowBias m c := by
  funext x
  rw [View.ld_apply, rowBias]
  blk_ext [iblk, idx t] <;> simp only [r0_6, unit_at, Matrix.cons_val_zero, Matrix.cons_val_one] <;> omega

theorem columnBiasBlock (c : Dev nD) (t : Fin cfg0.N) : View.ld (iblk m c 8 t) r0_8 = columnBias m c := by
  funext x
  rw [View.ld_apply, columnBias]
  blk_ext [iblk, idx t] <;> simp only [r0_8, unit_at, Matrix.cons_val_zero, Matrix.cons_val_one] <;> omega

/-- The choice between a prompt's block and a sample's. -/
theorem choose {α : Type} (n : ℕ) (hn : n < 34) (a b : α) :
    Scalar.select (Scalar.cmpi CmpIPredicate.slt (BitVec.ofNat 32 n) 32#32) a b = if n < 32 then a else b := by
  by_cases h : n < 32
  · rw [if_pos h]; word_cmp; simp [Scalar.select, h]
  · rw [if_neg h]; word_cmp; simp [Scalar.select, h]

/-- The normalized block of a grid point. -/
def normalBlock (c : Dev nD) (t : Fin cfg0.N) : FVec Ideal S512x1024 .bf16 :=
  k0_pay2 (grid0.coords t) (View.ld (iblk m c 0 t) r0_0) (View.ld (iblk m c 1 t) r0_0) (scale m c)

/-- The token of a grid point's row. -/
abbrev row (t : Fin cfg0.N) (r : Fin 512) : Fin 17408 := ⟨t.val * 512 + r.val, by have := lt34 t; omega⟩

theorem pay2_at (i : grid0.Coords) (x y : FVec Ideal S512x1024 .f32) (g : FVec Ideal S1x1024 .f32) (r : Fin 512) (k : Fin 1024) :
    k0_pay2 (F := Ideal) i x y g (ix2 r k) = normal (fun k => Scalar.select (Scalar.cmpi CmpIPredicate.slt (BitVec.ofNat 32 (i 0).val) 32#32)
      (x (ix2 r k)) (y (ix2 r k))) (fun k => g (ix2 0 k)) k := by
  pointwise [k0_pay2, normal]

theorem normalBlock_at (c : Dev nD) (t : Fin cfg0.N) (r : Fin 512) (k : Fin 1024) :
    normalBlock m c t (ix2 r k) = normal (token (arg0 m c) (arg1 m c) (row t r)) (fun k => arg2 m c (ix2 0 k)) k := by
  rw [normalBlock, pay2_at]
  have t34 := lt34 t
  congr 1
  · funext k
    rw [coord, choose _ t34, promptBlock, sampleBlock, prompts_at, samples_at]
    unfold token
    by_cases h : t.val < 32
    · rw [if_pos h, dif_pos (by simp only; omega)]
      exact congrArg₂ (fun a b => arg0 m c (ix3 a b k)) (Fin.ext (by simp only; omega)) (Fin.ext (by simp only; omega))
    · rw [if_neg h, dif_neg (by simp only; omega)]
      exact congrArg₂ (fun a b => arg1 m c (ix3 a b k)) (Fin.ext (by simp only; omega)) (Fin.ext (by simp only; omega))
  · funext k
    rw [scale_at]

/-- The reference's projections of the arguments. -/
def P (c : Dev nD) : FVec Ideal Cert.ProjectionsReferenceIdeal.S17408x2832 .f32 := projected (arg0 m c) (arg1 m c) (arg2 m c) (arg3 m c)

theorem P_at (c : Dev nD) (t : Fin cfg0.N) (r : Fin 512) (j : Fin 2832) :
    P m c (ix2 (row t r) j) = ∑ k, normalBlock m c t (ix2 r k) * arg3 m c (ix3 0 k j) := by
  rw [P, projected_at]
  simp only [normalBlock_at]
  rfl

/-- A grid point's rows against the weights of the rows' results. -/
def rowsOut (c : Dev nD) (t : Fin cfg0.N) : FVec Ideal S512x2304 .f32 :=
  k0_pay3 (grid0.coords t) (View.ld (iblk m c 0 t) r0_0) (View.ld (iblk m c 1 t) r0_0) (scale m c) (rowWeights m c)

theorem rowsOut_at (c : Dev nD) (t : Fin cfg0.N) (r : Fin 512) (j : Fin 2304) :
    rowsOut m c t (ix2 r j) = ∑ k, normalBlock m c t (ix2 r k) * rowWeights m c (ix2 k j) := by
  pointwise [rowsOut, normalBlock, k0_pay3]

/-- A run of columns of a grid point's rows, where the weights are a run of columns of the weights. -/
theorem rows_P (c : Dev nD) (t : Fin cfg0.N) (r : Fin 512) (j : Fin 2304) (j' : Fin 2832)
    (h : ∀ k, rowWeights m c (ix2 k j) = arg3 m c (ix3 0 k j')) : rowsOut m c t (ix2 r j) = P m c (ix2 (row t r) j') := by
  rw [rowsOut_at, P_at]
  exact Finset.sum_congr rfl fun k _ => by rw [h]

theorem same_place {a b : ℕ} (x y : (Shape.mk 2 ![a, b]).Idx) (h0 : (y 0).val = (x 0).val) (h1 : (y 1).val = (x 1).val) :
    ∃ (r : Fin a) (l : Fin b), x = ix2 r l ∧ y = ix2 r l := by
  refine ⟨x 0, x 1, funext fun i => ?_, funext fun i => ?_⟩
  · match i with
    | ⟨0, _⟩ => rfl
    | ⟨1, _⟩ => rfl
  · match i with
    | ⟨0, _⟩ => exact Fin.ext h0
    | ⟨1, _⟩ => exact Fin.ext h1

/-- A gate's value, where `w` says whether it is an input gate. -/
theorem gate_select (n : ℕ) (hn : n < 128) (z : EReal) :
    Scalar.select (IntOp.cmpi CmpIPredicate.slt (BitVec.ofNat 32 n) 8#32) z
      (min z 0 - Ideal.log (1 + Ideal.exp (0 - FloatOps.absf (F := Ideal) (φ := FTy.f32) z))) = if n < 8 then z else logSigmoid z := by
  by_cases h : n < 8
  · rw [if_pos h]; word_cmp; simp [Scalar.select, h]
  · rw [if_neg h]; word_cmp; simp [Scalar.select, h, logSigmoid]

theorem rowGates_at (v : FVec Ideal S512x1024 .bf16) (w : FVec Ideal S1024x128 .bf16) (b : FVec Ideal S1x128 .f32) (r : Fin 512) (j : Fin 128) :
    k0_pay11 (F := Ideal) v w b (ix2 r j) = if j.val < 8 then (∑ k, v (ix2 r k) * w (ix2 k j)) + b (ix2 0 j)
      else logSigmoid ((∑ k, v (ix2 r k) * w (ix2 k j)) + b (ix2 0 j)) := by
  refine Eq.trans ?_ (gate_select j.val j.isLt _)
  pointwise [k0_pay11]

theorem columnGates_at (v : FVec Ideal S512x1024 .bf16) (w : FVec Ideal S16x1024 .bf16) (b : FVec Ideal S16x1 .f32) (j : Fin 16) (r : Fin 512) :
    k0_pay1 (F := Ideal) v (k0_pay12 w) (constant S16x512 .f32 0x00000000#32) b (ix2 j r)
      = if j.val < 8 then (∑ k, w (ix2 j k) * v (ix2 r k)) + b (ix2 j 0)
      else logSigmoid ((∑ k, w (ix2 j k) * v (ix2 r k)) + b (ix2 j 0)) := by
  refine Eq.trans ?_ (gate_select j.val (by omega) _)
  pointwise [k0_pay1, k0_pay12]

theorem keys_at (v : FVec Ideal S512x1024 .bf16) (w : FVec Ideal S512x1024 .bf16) (d : Fin 512) (r : Fin 512) :
    k0_pay10 (F := Ideal) v w (ix2 d r) = (∑ k, w (ix2 d k) * v (ix2 r k)) * Ideal.ofBits .f32 0x3E000000#32 := by
  pointwise [k0_pay10]

theorem gate_bias (c : Dev nD) (t : Fin cfg0.N) (r : Fin 512) (j : Fin 16) (z : EReal) (hz : z = P m c (ix2 (row t r) ⟨2048 + j.val, by omega⟩)) :
    (if j.val < 8 then z + bias m c j else logSigmoid (z + bias m c j)) = gate (P m c) (arg4 m c) (arg5 m c) (row t r) j := by
  unfold gate bias
  by_cases h : j.val < 8
  · rw [if_pos h, dif_pos h, dif_pos h, hz]
  · rw [if_neg h, dif_neg h, dif_neg h, hz]

theorem out9 (c : Dev nD) (t : Fin cfg0.N) (y : S512x512.Idx) :
    out0_9 (grid0.coords t) (iblk m c 0 t) (iblk m c 1 t) (iblk m c 2 t) (iblk m c 3 t) (iblk m c 4 t) (iblk m c 5 t) (iblk m c 6 t) (iblk m c 7 t)
        (iblk m c 8 t) y
      = result0 (P m c) (ix2 (row t (y 0)) (y 1)) := by
  unfold out0_9
  canon_tiles x h
  obtain ⟨r, d, rfl, rfl⟩ := same_place x y h0 h1
  rw [scaleBlock, rowBlock]
  refine Eq.trans ?_ (result0_at (P m c) (row t r) d).symm
  rw [← rows_P m c t r ⟨d.val, by omega⟩ _ fun k => rowWeights_0 m c k d]
  pointwise [k0_pay4, rowsOut]
  rfl

theorem out10 (c : Dev nD) (t : Fin cfg0.N) (y : S512x512.Idx) :
    out0_10 (grid0.coords t) (iblk m c 0 t) (iblk m c 1 t) (iblk m c 2 t) (iblk m c 3 t) (iblk m c 4 t) (iblk m c 5 t) (iblk m c 6 t) (iblk m c 7 t)
        (iblk m c 8 t) y
      = result1 (P m c) (ix2 (row t (y 0)) (y 1)) := by
  unfold out0_10
  canon_tiles x h
  obtain ⟨r, d, rfl, rfl⟩ := same_place x y h0 h1
  rw [scaleBlock, rowBlock]
  refine Eq.trans ?_ (result1_at (P m c) (row t r) d).symm
  rw [← rows_P m c t r ⟨512 + d.val, by omega⟩ _ fun k => rowWeights_512 m c k d]
  pointwise [k0_pay5, rowsOut]
  rfl

theorem out11 (c : Dev nD) (t : Fin cfg0.N) (y : S512x512.Idx) :
    out0_11 (grid0.coords t) (iblk m c 0 t) (iblk m c 1 t) (iblk m c 2 t) (iblk m c 3 t) (iblk m c 4 t) (iblk m c 5 t) (iblk m c 6 t) (iblk m c 7 t)
        (iblk m c 8 t) y
      = result2 (P m c) (ix2 (row t (y 0)) (y 1)) := by
  unfold out0_11
  canon_tiles x h
  obtain ⟨r, d, rfl, rfl⟩ := same_place x y h0 h1
  rw [scaleBlock, rowBlock]
  refine Eq.trans ?_ (result2_at (P m c) (row t r) d).symm
  rw [← rows_P m c t r ⟨1024 + d.val, by omega⟩ _ fun k => rowWeights_1024 m c k d]
  pointwise [k0_pay6, rowsOut]
  rfl

theorem out12 (c : Dev nD) (t : Fin cfg0.N) (y : S512x512.Idx) :
    out0_12 (grid0.coords t) (iblk m c 0 t) (iblk m c 1 t) (iblk m c 2 t) (iblk m c 3 t) (iblk m c 4 t) (iblk m c 5 t) (iblk m c 6 t) (iblk m c 7 t)
        (iblk m c 8 t) y
      = result3 (P m c) (ix2 (row t (y 0)) (y 1)) := by
  unfold out0_12
  canon_tiles x h
  obtain ⟨r, d, rfl, rfl⟩ := same_place x y h0 h1
  rw [scaleBlock, rowBlock]
  refine Eq.trans ?_ (result3_at (P m c) (row t r) d).symm
  rw [← rows_P m c t r ⟨1536 + d.val, by omega⟩ _ fun k => rowWeights_1536 m c k d]
  pointwise [k0_pay7, rowsOut]
  rfl

theorem out13 (c : Dev nD) (t : Fin cfg0.N) (y : S512x128.Idx) :
    out0_13 (grid0.coords t) (iblk m c 0 t) (iblk m c 1 t) (iblk m c 2 t) (iblk m c 3 t) (iblk m c 4 t) (iblk m c 5 t) (iblk m c 6 t) (iblk m c 7 t)
        (iblk m c 8 t) y
      = result4 (P m c) (ix2 (row t (y 0)) (y 1)) := by
  unfold out0_13
  canon_tiles x h
  obtain ⟨r, d, rfl, rfl⟩ := same_place x y h0 h1
  rw [scaleBlock, rowBlock]
  refine Eq.trans ?_ (result4_at (P m c) (row t r) d).symm
  rw [← rows_P m c t r ⟨2048 + d.val, by omega⟩ _ fun k => rowWeights_2048 m c k d]
  pointwise [k0_pay8, rowsOut]
  rfl

theorem out14 (c : Dev nD) (t : Fin cfg0.N) (y : S512x128.Idx) :
    out0_14 (grid0.coords t) (iblk m c 0 t) (iblk m c 1 t) (iblk m c 2 t) (iblk m c 3 t) (iblk m c 4 t) (iblk m c 5 t) (iblk m c 6 t) (iblk m c 7 t)
        (iblk m c 8 t) y
      = result5 (P m c) (ix2 (row t (y 0)) (y 1)) := by
  unfold out0_14
  canon_tiles x h
  obtain ⟨r, d, rfl, rfl⟩ := same_place x y h0 h1
  rw [scaleBlock, rowBlock]
  refine Eq.trans ?_ (result5_at (P m c) (row t r) d).symm
  rw [← rows_P m c t r ⟨2176 + d.val, by omega⟩ _ fun k => rowWeights_2176 m c k d]
  pointwise [k0_pay9, rowsOut]
  rfl

theorem normalBlock_eq (c : Dev nD) (t : Fin cfg0.N) :
    k0_pay13 (grid0.coords t) (iblk m c 0 t) (iblk m c 1 t) (iblk m c 2 t) (iblk m c 3 t) (iblk m c 4 t) (iblk m c 5 t) (iblk m c 6 t) (iblk m c 7 t)
        (iblk m c 8 t) = normalBlock m c t := by
  rw [normalBlock, ← scaleBlock m c t]
  rfl

theorem out15 (c : Dev nD) (t : Fin cfg0.N) (y : S512x512.Idx) :
    out0_15 (grid0.coords t) (iblk m c 0 t) (iblk m c 1 t) (iblk m c 2 t) (iblk m c 3 t) (iblk m c 4 t) (iblk m c 5 t) (iblk m c 6 t) (iblk m c 7 t)
        (iblk m c 8 t) y
      = result6 (P m c) (ix2 (y 0) (row t (y 1))) := by
  unfold out0_15
  canon_tiles x h
  obtain ⟨d, r, rfl, rfl⟩ := same_place x y h0 h1
  rw [normalBlock_eq, keyBlock]
  refine (keys_at _ _ d r).trans (Eq.trans ?_ (result6_at (P m c) (row t r) d).symm)
  rw [P_at]
  exact congrArg (· * _) (Finset.sum_congr rfl fun k _ => by rw [keyWeights_at, mul_comm])

theorem out16 (c : Dev nD) (t : Fin cfg0.N) (y : S512x128.Idx) :
    out0_16 (grid0.coords t) (iblk m c 0 t) (iblk m c 1 t) (iblk m c 2 t) (iblk m c 3 t) (iblk m c 4 t) (iblk m c 5 t) (iblk m c 6 t) (iblk m c 7 t)
        (iblk m c 8 t) y
      = result7 (P m c) (arg4 m c) (arg5 m c) (ix2 (row t (y 0)) (y 1)) := by
  unfold out0_16
  canon_tiles x h
  obtain ⟨r, d, rfl, rfl⟩ := same_place x y h0 h1
  rw [normalBlock_eq, gateRowBlock, rowBiasBlock]
  refine Eq.trans ?_ (result7_at (P m c) (arg4 m c) (arg5 m c) (row t r) d).symm
  refine (rowGates_at (normalBlock m c t) (gateRowWeights m c) (rowBias m c) r d).trans ?_
  rw [rowBias_at]
  by_cases h : d.val < 16
  · rw [dif_pos h, dif_pos h]
    refine gate_bias m c t r ⟨d.val, h⟩ _ ?_
    rw [P_at]
    exact Finset.sum_congr rfl fun k _ => by rw [gateRowWeights_at, dif_pos h]
  · rw [dif_neg h, dif_neg h, if_neg (by omega), add_zero]
    refine congrArg logSigmoid (Finset.sum_eq_zero fun k _ => ?_)
    rw [gateRowWeights_at, dif_neg h, mul_zero]

theorem out17 (c : Dev nD) (t : Fin cfg0.N) (y : S16x512.Idx) :
    out0_17 (grid0.coords t) (iblk m c 0 t) (iblk m c 1 t) (iblk m c 2 t) (iblk m c 3 t) (iblk m c 4 t) (iblk m c 5 t) (iblk m c 6 t) (iblk m c 7 t)
        (iblk m c 8 t) y
      = result8 (P m c) (arg4 m c) (arg5 m c) (ix2 (y 0) (row t (y 1))) := by
  unfold out0_17
  canon_tiles x h
  obtain ⟨d, r, rfl, rfl⟩ := same_place x y h0 h1
  rw [normalBlock_eq, gateColumnBlock, columnBiasBlock]
  refine Eq.trans ?_ (result8_at (P m c) (arg4 m c) (arg5 m c) (row t r) d).symm
  refine (columnGates_at (normalBlock m c t) (gateColumnWeights m c) (columnBias m c) d r).trans ?_
  rw [columnBias_at]
  refine gate_bias m c t r d _ ?_
  rw [P_at]
  exact Finset.sum_congr rfl fun k _ => by rw [gateColumnWeights_at, mul_comm]

theorem final0 (c : Dev nD) : (dats m 0 c).arrAt 9 cfg0.N = result0 (P m c) := by
  refine (dats m 0 c).arrAt_eq_of_covers 9 (result0 (P m c)) (by decide +kernel) fun t hf y => ?_
  blk_simp
  rw [after0_9, out9]
  blk_ext [idx t]

theorem final1 (c : Dev nD) : (dats m 0 c).arrAt 10 cfg0.N = result1 (P m c) := by
  refine (dats m 0 c).arrAt_eq_of_covers 10 (result1 (P m c)) (by decide +kernel) fun t hf y => ?_
  blk_simp
  rw [after0_10, out10]
  blk_ext [idx t]

theorem final2 (c : Dev nD) : (dats m 0 c).arrAt 11 cfg0.N = result2 (P m c) := by
  refine (dats m 0 c).arrAt_eq_of_covers 11 (result2 (P m c)) (by decide +kernel) fun t hf y => ?_
  blk_simp
  rw [after0_11, out11]
  blk_ext [idx t]

theorem final3 (c : Dev nD) : (dats m 0 c).arrAt 12 cfg0.N = result3 (P m c) := by
  refine (dats m 0 c).arrAt_eq_of_covers 12 (result3 (P m c)) (by decide +kernel) fun t hf y => ?_
  blk_simp
  rw [after0_12, out12]
  blk_ext [idx t]

theorem final4 (c : Dev nD) : (dats m 0 c).arrAt 13 cfg0.N = result4 (P m c) := by
  refine (dats m 0 c).arrAt_eq_of_covers 13 (result4 (P m c)) (by decide +kernel) fun t hf y => ?_
  blk_simp
  rw [after0_13, out13]
  blk_ext [idx t]

theorem final5 (c : Dev nD) : (dats m 0 c).arrAt 14 cfg0.N = result5 (P m c) := by
  refine (dats m 0 c).arrAt_eq_of_covers 14 (result5 (P m c)) (by decide +kernel) fun t hf y => ?_
  blk_simp
  rw [after0_14, out14]
  blk_ext [idx t]

theorem final6 (c : Dev nD) : (dats m 0 c).arrAt 15 cfg0.N = result6 (P m c) := by
  refine (dats m 0 c).arrAt_eq_of_covers 15 (result6 (P m c)) (by decide +kernel) fun t hf y => ?_
  blk_simp
  rw [after0_15, out15]
  blk_ext [idx t]

theorem final7 (c : Dev nD) : (dats m 0 c).arrAt 16 cfg0.N = result7 (P m c) (arg4 m c) (arg5 m c) := by
  refine (dats m 0 c).arrAt_eq_of_covers 16 (result7 (P m c) (arg4 m c) (arg5 m c)) (by decide +kernel) fun t hf y => ?_
  blk_simp
  rw [after0_16, out16]
  blk_ext [idx t]

theorem final8 (c : Dev nD) : (dats m 0 c).arrAt 17 cfg0.N = result8 (P m c) (arg4 m c) (arg5 m c) := by
  refine (dats m 0 c).arrAt_eq_of_covers 17 (result8 (P m c) (arg4 m c) (arg5 m c)) (by decide +kernel) fun t hf y => ?_
  blk_simp
  rw [after0_17, out17]
  blk_ext [idx t]

end Cert.ProjectionsIdeal.Proj

end
-- ==== Proof.OutRef.lean ====
/- The reference's output projection and the norm after it, read at one token and one column. -/
module

public import proofs.«01_k».proof.Proof.Gen.OutputReferenceIdeal.Run
public import proofs.«01_k».proof.Proof.ProjRef

@[expose] public section

set_option maxRecDepth 16384

noncomputable section

namespace Cert.OutputReferenceIdeal.Out

open Idealize.ShloMosaic Idealize.ShloMosaic.TcCoe Idealize.SL.Sem
open Cert.OutputReferenceIdeal Cert.OutputReferenceIdeal.Gen
open Cert.ProjectionsReferenceIdeal.Proj (token)
open Cert.Proj (normal)

/-- The tokens of the prompts, then those of the samples. -/
def tokens (A0 : FVec Ideal S2x8192x1024 .f32) (A1 : FVec Ideal S128x8x1024 .f32) : FVec Ideal S17408x1024 .f32 :=
  concatenate S17408x1024 0 [⟨S16384x1024, (shapeCast _ A0 shapeCasts_S2x8192x1024_S16384x1024)⟩,
    ⟨S1024x1024, (shapeCast _ A1 shapeCasts_S128x8x1024_S1024x1024)⟩] concatenates_S16384x1024_S1024x1024_S17408x1024_d0

/-- Half of the mixers' output: the prompts' rows, then the samples'. -/
def half (p : FVec Ideal S16384x512 .f32) (s : FVec Ideal S1024x512 .f32) : FVec Ideal S17408x512 .f32 :=
  concatenate S17408x512 0 [⟨S16384x512, p⟩, ⟨S1024x512, s⟩] concatenates_S16384x512_S1024x512_S17408x512_d0

/-- Both halves side by side. -/
def mixed (a b : FVec Ideal S17408x512 .f32) : FVec Ideal S17408x1024 .f32 :=
  concatenate S17408x1024 1 [⟨S17408x512, a⟩, ⟨S17408x512, b⟩] concatenates_S17408x512_S17408x512_S17408x1024_d1

/-- The mixers' output against the weights, added to the tokens. -/
def added (x y : FVec Ideal S17408x1024 .f32) (w : FVec Ideal S1x1024x1024 .f32) : FVec Ideal S17408x1024 .f32 :=
  addf x (Host.dotGeneral dot_S17408x1024_S1024x1024_S17408x1024_1_0_0_1_n_n none y (shapeCast _ w shapeCasts_S1x1024x1024_S1024x1024))

/-- The reference's result. -/
def result (A0 : FVec Ideal S2x8192x1024 .f32) (A1 : FVec Ideal S128x8x1024 .f32) (A2 A3 : FVec Ideal S16384x512 .bf16)
    (A4 : FVec Ideal S1024x512 .f32) (A5 : FVec Ideal S1024x512 .f32) (A6 : FVec Ideal S1x1024x1024 .f32) : FVec Ideal S17408x1024 .f32 :=
  added (tokens A0 A1) (mixed (half (extf .f32 A2 bitsLt_bf16_f32) A4) (half (extf .f32 A3 bitsLt_bf16_f32) A5)) A6

/-- The normalized tokens. -/
def hidden (x : FVec Ideal S17408x1024 .f32) (g : FVec Ideal S1x1024 .f32) : FVec Ideal S17408x1024 .f32 :=
  mulf (mulf x (broadcastInDim S17408x1024 ![0, 1] bcast_S17408x1_S17408x1024_0_1 (Host.rsqrt (addf (Host.divf
    (broadcastInDim S17408x1 ![0] bcast_S17408_S17408x1_0 (Host.reduceAdd (mulf x x) (constant S_ .f32 0x00000000#32)
    reducesTo_S17408x1024_S17408_d1 h_S_)) (broadcastInDim S17408x1 ![] bcast_S_S17408x1 (constant S_ .f32 0x44800000#32)))
    (broadcastInDim S17408x1 ![] bcast_S_S17408x1 (constant S_ .f32 0x3727C5AC#32)))))) (broadcastInDim S17408x1024 ![0, 1]
    bcast_S1x1024_S17408x1024_0_1 (broadcastInDim S1x1024 ![1] bcast_S1024_S1x1024_1 (shapeCast _ g shapeCasts_S1x1024_S1024)))

theorem hidden_at (x : FVec Ideal S17408x1024 .f32) (g : FVec Ideal S1x1024 .f32) (r : Fin 17408) (k : Fin 1024) :
    hidden x g (ix2 r k) = normal (fun k => x (ix2 r k)) (fun k => g (ix2 0 k)) k := by
  pointwise [hidden, normal]

/-- A token's entry of a half. -/
def entry (p : S16384x512.Idx → EReal) (s : S1024x512.Idx → EReal) (r : Fin 17408) (j : Fin 512) : EReal :=
  if h : r.val < 16384 then p (ix2 ⟨r.val, h⟩ j) else s (ix2 ⟨r.val - 16384, by omega⟩ j)

theorem tokens_at (A0 : FVec Ideal S2x8192x1024 .f32) (A1 : FVec Ideal S128x8x1024 .f32) (r : Fin 17408) (k : Fin 1024) :
    tokens A0 A1 (ix2 r k) = token A0 A1 r k := by
  pointwise [tokens, token]

theorem half_at (p : FVec Ideal S16384x512 .f32) (s : FVec Ideal S1024x512 .f32) (r : Fin 17408) (j : Fin 512) :
    half p s (ix2 r j) = entry p s r j := by
  pointwise [half, entry]

theorem mixed_at (a b : FVec Ideal S17408x512 .f32) (r : Fin 17408) (j : Fin 1024) :
    mixed a b (ix2 r j) = if h : j.val < 512 then a (ix2 r ⟨j.val, h⟩) else b (ix2 r ⟨j.val - 512, by omega⟩) := by
  pointwise [mixed]

theorem added_at (x y : FVec Ideal S17408x1024 .f32) (w : FVec Ideal S1x1024x1024 .f32) (r : Fin 17408) (k : Fin 1024) :
    added x y w (ix2 r k) = x (ix2 r k) + ∑ j, y (ix2 r j) * w (ix3 0 j k) := by
  pointwise [added]

/-- A sum over 1024 columns is one over the first 512 and one over the rest. -/
theorem sum_halves (f : Fin 1024 → EReal) :
    ∑ j, f j = (∑ j : Fin 512, f ⟨j.val, by omega⟩) + ∑ j : Fin 512, f ⟨512 + j.val, by omega⟩ :=
  Fin.sum_univ_add (a := 512) (b := 512) f

/-- The result at a token and a column: the token's entry and both halves' products. -/
theorem result_at (A0 : FVec Ideal S2x8192x1024 .f32) (A1 : FVec Ideal S128x8x1024 .f32) (A2 A3 : FVec Ideal S16384x512 .bf16)
    (A4 : FVec Ideal S1024x512 .f32) (A5 : FVec Ideal S1024x512 .f32) (A6 : FVec Ideal S1x1024x1024 .f32) (r : Fin 17408) (k : Fin 1024) :
    result A0 A1 A2 A3 A4 A5 A6 (ix2 r k) = token A0 A1 r k + (∑ j : Fin 512, entry A2 A4 r j * A6 (ix3 0 ⟨j.val, by omega⟩ k))
      + ∑ j : Fin 512, entry A3 A5 r j * A6 (ix3 0 ⟨512 + j.val, by omega⟩ k) := by
  rw [result, added_at, sum_halves, tokens_at, add_assoc]
  congr 2
  · refine Finset.sum_congr rfl fun j _ => ?_
    rw [mixed_at, dif_pos (by simp only; omega), half_at]
    rfl
  · refine Finset.sum_congr rfl fun j _ => ?_
    rw [mixed_at, dif_neg (by simp only; omega), half_at, show (⟨512 + j.val - 512, by omega⟩ : Fin 512) = j from Fin.ext (by simp only; omega)]
    rfl

/-- The reference's result from the arguments of one device. -/
def P (m : (ℓ : Loc nD τ sig) → Buf (Elt Ideal) ℓ) (c : Dev nD) : FVec Ideal S17408x1024 .f32 :=
  result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

theorem result_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = P m c
      ∧ r.2.mem ((c.tc : Thread nD τ).loc main_v24) = hidden (P m c) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ⟨?_, ?_, (h c).2.2⟩) (Value.run (F := Ideal) m ρ)
  · unfold P result added mixed half tokens
    exact (h c).1
  · unfold hidden P result added mixed half tokens
    exact (h c).2.1

end Cert.OutputReferenceIdeal.Out

end
-- ==== Proof.Out.lean ====
/- The output projection's call leaves the reference's sum of the tokens and the projected mixers' output, and its norm. -/
module

public import proofs.«01_k».proof.Proof.Gen.OutputIdeal.Frame
public import proofs.«01_k».proof.Proof.OutRef
public import proofs.«01_k».proof.Proof.Proj
public import Idealize.ShloMosaic.Lib.VecWindow

@[expose] public section

set_option maxRecDepth 16384

noncomputable section

namespace Cert.OutputIdeal.Out

open Idealize.ShloMosaic Idealize.ShloMosaic.TcCoe Idealize.SL.Sem
open Cert.OutputIdeal Cert.OutputIdeal.Gen
open Cert.ProjectionsReferenceIdeal.Proj (token)
open Cert.ProjectionsIdeal.Proj (unit_at choose same_place)
open Cert.ProjectionsIdeal.Proj renaming ix2_0 → at_0, ix2_1 → at_1
open Cert.OutputReferenceIdeal.Out (entry result result_at hidden hidden_at)
open Cert.Proj (normal)

variable (m : (ℓ : Loc nD τ sig) → Buf (Elt Ideal) ℓ)

/-- The arguments, of one device. -/
def arg0 (c : Dev nD) : FVec Ideal S2x8192x1024 .f32 := m ((c : Thread nD τ).loc main_arg0)
def arg1 (c : Dev nD) : FVec Ideal S128x8x1024 .f32 := m ((c : Thread nD τ).loc main_arg1)
def arg2 (c : Dev nD) : FVec Ideal S16384x512 .bf16 := m ((c : Thread nD τ).loc main_arg2)
def arg3 (c : Dev nD) : FVec Ideal S16384x512 .bf16 := m ((c : Thread nD τ).loc main_arg3)
def arg4 (c : Dev nD) : FVec Ideal S1024x512 .f32 := m ((c : Thread nD τ).loc main_arg4)
def arg5 (c : Dev nD) : FVec Ideal S1024x512 .f32 := m ((c : Thread nD τ).loc main_arg5)
def arg6 (c : Dev nD) : FVec Ideal S1x1024x1024 .f32 := m ((c : Thread nD τ).loc main_arg6)
def arg7 (c : Dev nD) : FVec Ideal S1x1024 .f32 := m ((c : Thread nD τ).loc main_arg7)

/-- The arrays the call reads beside the mixers' outputs: the tokens, the two halves of the weights, and the norm's scale. -/
def prompts (c : Dev nD) : FVec Ideal S16384x1024 .f32 := V m c main_v2
def samples (c : Dev nD) : FVec Ideal S1024x1024 .f32 := V m c main_v3
def upper (c : Dev nD) : FVec Ideal S512x1024 .bf16 := V m c main_v4
def lower (c : Dev nD) : FVec Ideal S512x1024 .bf16 := V m c main_v5
def scale (c : Dev nD) : FVec Ideal S1x1024 .f32 := V m c main_v7

theorem prompts_at (c : Dev nD) (r : Fin 16384) (k : Fin 1024) :
    prompts m c (ix2 r k) = arg0 m c (ix3 ⟨r.val / 8192, by omega⟩ ⟨r.val % 8192, by omega⟩ k) := by
  unfold prompts V; after_reads_at; rfl

theorem samples_at (c : Dev nD) (r : Fin 1024) (k : Fin 1024) :
    samples m c (ix2 r k) = arg1 m c (ix3 ⟨r.val / 8, by omega⟩ ⟨r.val % 8, by omega⟩ k) := by
  unfold samples V; after_reads_at; rfl

theorem upper_at (c : Dev nD) (j : Fin 512) (k : Fin 1024) : upper m c (ix2 j k) = arg6 m c (ix3 0 ⟨j.val, by omega⟩ k) := by
  unfold upper V; after_reads_at; rfl

theorem lower_at (c : Dev nD) (j : Fin 512) (k : Fin 1024) : lower m c (ix2 j k) = arg6 m c (ix3 0 ⟨512 + j.val, by omega⟩ k) := by
  unfold lower V; after_reads_at; rfl

theorem scale_at (c : Dev nD) (k : Fin 1024) : scale m c (ix2 0 k) = arg7 m c (ix2 0 k) := by
  unfold scale V; after_reads_at; rfl

/-- The windows' blocks at a grid point: the prompts' rows up to point 31, then the samples'; the weights whole. -/
theorem idx : ∀ t : Fin cfg0.N, win0_0.index t = ![min t.val 31, 0] ∧ win0_1.index t = ![t.val - 32, 0]
    ∧ win0_2.index t = ![min t.val 31, 0] ∧ win0_3.index t = ![min t.val 31, 0] ∧ win0_4.index t = ![t.val - 32, 0]
    ∧ win0_5.index t = ![t.val - 32, 0] ∧ win0_6.index t = ![0, 0] ∧ win0_7.index t = ![0, 0] ∧ win0_8.index t = ![0, 0]
    ∧ win0_11.index t = ![t.val, 0] ∧ win0_12.index t = ![t.val, 0] :=
  (by decide +kernel : ∀ t : Fin grid0.N, _)

theorem coord : ∀ t : Fin cfg0.N, (grid0.coords t 0).val = t.val :=
  (by decide +kernel : ∀ t : Fin grid0.N, _)

theorem lt34 (t : Fin cfg0.N) : t.val < 34 := t.isLt

theorem promptBlock (c : Dev nD) (t : Fin cfg0.N) (r : Fin 512) (k : Fin 1024) :
    iblk m c 0 t (ix2 r k) = prompts m c (ix2 ⟨min t.val 31 * 512 + r.val, by omega⟩ k) := by
  rw [prompts]
  have := lt34 t
  blk_ext [iblk, idx t] <;> simp only [at_0, at_1, Matrix.cons_val_zero, Matrix.cons_val_one] <;> omega

theorem sampleBlock (c : Dev nD) (t : Fin cfg0.N) (r : Fin 512) (k : Fin 1024) :
    iblk m c 1 t (ix2 r k) = samples m c (ix2 ⟨(t.val - 32) * 512 + r.val, by have := lt34 t; omega⟩ k) := by
  rw [samples]
  have := lt34 t
  blk_ext [iblk, idx t] <;> simp only [at_0, at_1, Matrix.cons_val_zero, Matrix.cons_val_one] <;> omega

theorem recurrentPrompt (c : Dev nD) (t : Fin cfg0.N) (r : Fin 512) (k : Fin 512) :
    iblk m c 2 t (ix2 r k) = arg2 m c (ix2 ⟨min t.val 31 * 512 + r.val, by omega⟩ k) := by
  rw [arg2, ← V_main_arg2 m c]
  have := lt34 t
  blk_ext [iblk, idx t] <;> simp only [at_0, at_1, Matrix.cons_val_zero, Matrix.cons_val_one] <;> omega

theorem attendedPrompt (c : Dev nD) (t : Fin cfg0.N) (r : Fin 512) (k : Fin 512) :
    iblk m c 3 t (ix2 r k) = arg3 m c (ix2 ⟨min t.val 31 * 512 + r.val, by omega⟩ k) := by
  rw [arg3, ← V_main_arg3 m c]
  have := lt34 t
  blk_ext [iblk, idx t] <;> simp only [at_0, at_1, Matrix.cons_val_zero, Matrix.cons_val_one] <;> omega

theorem recurrentSample (c : Dev nD) (t : Fin cfg0.N) (r : Fin 512) (k : Fin 512) :
    iblk m c 4 t (ix2 r k) = arg4 m c (ix2 ⟨(t.val - 32) * 512 + r.val, by have := lt34 t; omega⟩ k) := by
  rw [arg4, ← V_main_arg4 m c]
  have := lt34 t
  blk_ext [iblk, idx t] <;> simp only [at_0, at_1, Matrix.cons_val_zero, Matrix.cons_val_one] <;> omega

theorem attendedSample (c : Dev nD) (t : Fin cfg0.N) (r : Fin 512) (k : Fin 512) :
    iblk m c 5 t (ix2 r k) = arg5 m c (ix2 ⟨(t.val - 32) * 512 + r.val, by have := lt34 t; omega⟩ k) := by
  rw [arg5, ← V_main_arg5 m c]
  have := lt34 t
  blk_ext [iblk, idx t] <;> simp only [at_0, at_1, Matrix.cons_val_zero, Matrix.cons_val_one] <;> omega

theorem upperBlock (c : Dev nD) (t : Fin cfg0.N) : iblk m c 6 t = upper m c := by
  funext x
  rw [upper]
  blk_ext [iblk, idx t] <;> simp only [Matrix.cons_val_zero, Matrix.cons_val_one] <;> omega

theorem lowerBlock (c : Dev nD) (t : Fin cfg0.N) : iblk m c 7 t = lower m c := by
  funext x
  rw [lower]
  blk_ext [iblk, idx t] <;> simp only [Matrix.cons_val_zero, Matrix.cons_val_one] <;> omega

theorem scaleBlock (c : Dev nD) (t : Fin cfg0.N) : iblk m c 8 t = scale m c := by
  funext x
  rw [scale]
  blk_ext [iblk, idx t] <;> simp only [Matrix.cons_val_zero, Matrix.cons_val_one] <;> omega

/-- The body's sum at a row and a column: the entry of the token and both products, each of the prompts or of the samples. -/
theorem pay3_at (i : grid0.Coords) (x y : FVec Ideal S512x1024 .f32) (p a : FVec Ideal S512x512 .bf16) (q b : FVec Ideal S512x512 .f32)
    (u w : FVec Ideal S512x1024 .bf16) (r : Fin 512) (k : Fin 1024) :
    k0_pay3 (F := Ideal) i x y p q a b u w (ix2 r k)
      = Scalar.select (Scalar.cmpi CmpIPredicate.slt (BitVec.ofNat 32 (i 0).val) 32#32) (x (ix2 r k)) (y (ix2 r k))
        + (∑ j : Fin 512, Scalar.select (Scalar.cmpi CmpIPredicate.slt (BitVec.ofNat 32 (i 0).val) 32#32) (p (ix2 r j)) (q (ix2 r j)) * u (ix2 j k))
        + ∑ j : Fin 512, Scalar.select (Scalar.cmpi CmpIPredicate.slt (BitVec.ofNat 32 (i 0).val) 32#32) (a (ix2 r j)) (b (ix2 r j)) * w (ix2 j k) := by
  pointwise [k0_pay3]

/-- The token of a grid point's row. -/
abbrev row (t : Fin cfg0.N) (r : Fin 512) : Fin 17408 := ⟨t.val * 512 + r.val, by have := lt34 t; omega⟩

theorem token_choice (c : Dev nD) (t : Fin cfg0.N) (r : Fin 512) (k : Fin 1024) :
    (if t.val < 32 then prompts m c (ix2 ⟨min t.val 31 * 512 + r.val, by omega⟩ k)
      else samples m c (ix2 ⟨(t.val - 32) * 512 + r.val, by have := lt34 t; omega⟩ k)) = token (arg0 m c) (arg1 m c) (row t r) k := by
  have t34 := lt34 t
  rw [prompts_at, samples_at]
  unfold token
  by_cases h : t.val < 32
  · rw [if_pos h, dif_pos (by simp only; omega)]
    exact congrArg₂ (fun a b => arg0 m c (ix3 a b k)) (Fin.ext (by simp only; omega)) (Fin.ext (by simp only; omega))
  · rw [if_neg h, dif_neg (by simp only; omega)]
    exact congrArg₂ (fun a b => arg1 m c (ix3 a b k)) (Fin.ext (by simp only; omega)) (Fin.ext (by simp only; omega))

theorem entry_choice (p : S16384x512.Idx → EReal) (s : S1024x512.Idx → EReal) (t : Fin cfg0.N) (r : Fin 512) (j : Fin 512) :
    (if t.val < 32 then p (ix2 ⟨min t.val 31 * 512 + r.val, by omega⟩ j)
      else s (ix2 ⟨(t.val - 32) * 512 + r.val, by have := lt34 t; omega⟩ j)) = entry p s (row t r) j := by
  have t34 := lt34 t
  unfold entry
  by_cases h : t.val < 32
  · rw [if_pos h, dif_pos (by simp only; omega)]
    exact congrArg (fun a => p (ix2 a j)) (Fin.ext (by simp only; omega))
  · rw [if_neg h, dif_neg (by simp only; omega)]
    exact congrArg (fun a => s (ix2 a j)) (Fin.ext (by simp only; omega))

/-- The reference's result of the arguments. -/
def P (c : Dev nD) : FVec Ideal Cert.OutputReferenceIdeal.S17408x1024 .f32 :=
  result (arg0 m c) (arg1 m c) (arg2 m c) (arg3 m c) (arg4 m c) (arg5 m c) (arg6 m c)

/-- A load of a whole buffer reads its contents. -/
theorem read_whole {sp : Space} {s : Shape} {e : EltTy} {b : Memref sig .tc sp s e} (h : b.IsWhole) (X : s.Idx → Elt Ideal e)
    {off : Fin s.rank → ℕ} (inb : ∀ a, off a + s.size a ≤ s.size a) :
    b.view.readAt (Elt Ideal) (Rect.unit off s.size inb).toLoadRect (h.unread X) = X :=
  (View.readAt_full b.view _ inb).trans (h.read_unread X)

/-- What the body stores in the first result's block. -/
abbrev sum (c : Dev nD) (t : Fin cfg0.N) : FVec Ideal S512x1024 .f32 :=
  k0_pay3 (F := Ideal) (grid0.coords t) (iblk m c 0 t) (iblk m c 1 t) (iblk m c 2 t) (iblk m c 4 t) (iblk m c 3 t) (iblk m c 5 t)
    (iblk m c 6 t) (iblk m c 7 t)

/-- What the body stores in the second result's block. -/
abbrev norm (c : Dev nD) (t : Fin cfg0.N) : FVec Ideal S512x1024 .f32 :=
  k0_pay6 (F := Ideal) (sum m c t) (k0_pay4 (iblk m c 8 t)) (k0_pay5 (F := Ideal) (grid0.coords t) (iblk m c 0 t) (iblk m c 1 t)
    (iblk m c 2 t) (iblk m c 4 t) (iblk m c 3 t) (iblk m c 5 t) (iblk m c 6 t) (iblk m c 7 t))

/-- What the body loads of each input is that input's block. -/
theorem read0 (c : Dev nD) (t : Fin cfg0.N) : View.readAt (Elt Ideal) (ms0_0 t).view
    (Rect.unit ![0, 0] ![512, 1024] inb_S512x1024_S512x1024_0_0).toLoadRect ((hs0_0 t).unread (iblk m c 0 t)) = iblk m c 0 t :=
  read_whole (hs0_0 t) _ inb_S512x1024_S512x1024_0_0

theorem read1 (c : Dev nD) (t : Fin cfg0.N) : View.readAt (Elt Ideal) (ms0_1 t).view
    (Rect.unit ![0, 0] ![512, 1024] inb_S512x1024_S512x1024_0_0).toLoadRect ((hs0_1 t).unread (iblk m c 1 t)) = iblk m c 1 t :=
  read_whole (hs0_1 t) _ inb_S512x1024_S512x1024_0_0

theorem read2 (c : Dev nD) (t : Fin cfg0.N) : View.readAt (Elt Ideal) (ms0_2 t).view
    (Rect.unit ![0, 0] ![512, 512] inb_S512x512_S512x512_0_0).toLoadRect ((hs0_2 t).unread (iblk m c 2 t)) = iblk m c 2 t :=
  read_whole (hs0_2 t) _ inb_S512x512_S512x512_0_0

theorem read3 (c : Dev nD) (t : Fin cfg0.N) : View.readAt (Elt Ideal) (ms0_3 t).view
    (Rect.unit ![0, 0] ![512, 512] inb_S512x512_S512x512_0_0).toLoadRect ((hs0_3 t).unread (iblk m c 3 t)) = iblk m c 3 t :=
  read_whole (hs0_3 t) _ inb_S512x512_S512x512_0_0

theorem read4 (c : Dev nD) (t : Fin cfg0.N) : View.readAt (Elt Ideal) (ms0_4 t).view
    (Rect.unit ![0, 0] ![512, 512] inb_S512x512_S512x512_0_0).toLoadRect ((hs0_4 t).unread (iblk m c 4 t)) = iblk m c 4 t :=
  read_whole (hs0_4 t) _ inb_S512x512_S512x512_0_0

theorem read5 (c : Dev nD) (t : Fin cfg0.N) : View.readAt (Elt Ideal) (ms0_5 t).view
    (Rect.unit ![0, 0] ![512, 512] inb_S512x512_S512x512_0_0).toLoadRect ((hs0_5 t).unread (iblk m c 5 t)) = iblk m c 5 t :=
  read_whole (hs0_5 t) _ inb_S512x512_S512x512_0_0

theorem read6 (c : Dev nD) (t : Fin cfg0.N) : View.readAt (Elt Ideal) (ms0_6 t).view
    (Rect.unit ![0, 0] ![512, 1024] inb_S512x1024_S512x1024_0_0).toLoadRect ((hs0_6 t).unread (iblk m c 6 t)) = iblk m c 6 t :=
  read_whole (hs0_6 t) _ inb_S512x1024_S512x1024_0_0

theorem read7 (c : Dev nD) (t : Fin cfg0.N) : View.readAt (Elt Ideal) (ms0_7 t).view
    (Rect.unit ![0, 0] ![512, 1024] inb_S512x1024_S512x1024_0_0).toLoadRect ((hs0_7 t).unread (iblk m c 7 t)) = iblk m c 7 t :=
  read_whole (hs0_7 t) _ inb_S512x1024_S512x1024_0_0

theorem read8 (c : Dev nD) (t : Fin cfg0.N) : View.readAt (Elt Ideal) (ms0_8 t).view
    (Rect.unit ![0, 0] ![1, 1024] inb_S1x1024_S1x1024_0_0).toLoadRect ((hs0_8 t).unread (iblk m c 8 t)) = iblk m c 8 t :=
  read_whole (hs0_8 t) _ inb_S1x1024_S1x1024_0_0

/-- At the first point and at the others, the results' blocks hold what the body stores. -/
theorem block11 (c : Dev nD) (t : Fin cfg0.N) : (outsAt0 m c t.val t.isLt).1 = sum m c t := by
  by_cases h0 : t.val % 34 = 0
  · rw [outsAt0_A m c t h0]
    dsimp only
    unfold out0_A_11 kernelRun0_A
    dsimp only
    refine (View.read_writes_full VO0_11 _ inb_S512x1024_S512x1024_0_0 _ []).trans ?_
    rw [read0, read1, read2, read3, read4, read5, read6, read7]
  · rw [outsAt0_B m c t h0]
    dsimp only
    unfold out0_B_11 kernelRun0_B
    dsimp only
    refine (View.read_writes_full VO0_11 _ inb_S512x1024_S512x1024_0_0 _ []).trans ?_
    rw [read0, read1, read2, read3, read4, read5, read6, read7]

theorem block12 (c : Dev nD) (t : Fin cfg0.N) : (outsAt0 m c t.val t.isLt).2.1 = norm m c t := by
  by_cases h0 : t.val % 34 = 0
  · rw [outsAt0_A m c t h0]
    dsimp only
    unfold out0_A_12 kernelRun0_A
    dsimp only
    refine (View.read_writes_full VO0_12 _ inb_S512x1024_S512x1024_0_0 _ []).trans ?_
    unfold kernelRun0_A.sl.r kernelRun0_A.sl.r_1 kernelRun0_A.sl.r_2
    rw [read0, read1, read2, read3, read4, read5, read6, read7, read8]
  · rw [outsAt0_B m c t h0]
    dsimp only
    unfold out0_B_12 kernelRun0_B
    dsimp only
    refine (View.read_writes_full VO0_12 _ inb_S512x1024_S512x1024_0_0 _ []).trans ?_
    unfold kernelRun0_B.sl.r kernelRun0_B.sl.r_1 kernelRun0_B.sl.r_2
    rw [read0, read1, read2, read3, read4, read5, read6, read7, read8]

theorem sum_at (c : Dev nD) (t : Fin cfg0.N) (r : Fin 512) (k : Fin 1024) : sum m c t (ix2 r k) = P m c (ix2 (row t r) k) := by
  rw [sum, upperBlock, lowerBlock]
  refine (pay3_at _ _ _ _ _ _ _ _ _ r k).trans (Eq.trans ?_ (result_at _ _ _ _ _ _ _ (row t r) k).symm)
  simp only [coord, choose _ (lt34 t), promptBlock, sampleBlock, recurrentPrompt, recurrentSample, attendedPrompt, attendedSample,
    upper_at, lower_at, token_choice, entry_choice]

/-- The body's norm at a row and a column. -/
theorem pay6_at (x : FVec Ideal S512x1024 .f32) (g : FVec Ideal S1x1024 .f32) (q : FVec Ideal S512x1 .f32) (r : Fin 512) (k : Fin 1024) :
    k0_pay6 (F := Ideal) x g q (ix2 r k)
      = x (ix2 r k) * Ideal.rsqrt (Ideal.div (q (ix2 r 0)) (Ideal.ofBits FTy.f32 0x44800000#32) + Ideal.ofBits FTy.f32 0x3727C5AC#32)
        * g (ix2 0 k) := by
  pointwise [k0_pay6]

/-- The body's sum of squares of a row. -/
theorem pay5_at (i : grid0.Coords) (x y : FVec Ideal S512x1024 .f32) (p a : FVec Ideal S512x512 .bf16) (q b : FVec Ideal S512x512 .f32)
    (u w : FVec Ideal S512x1024 .bf16) (r : Fin 512) :
    k0_pay5 (F := Ideal) i x y p q a b u w (ix2 r 0)
      = ∑ j : Fin 1024, k0_pay3 (F := Ideal) i x y p q a b u w (ix2 r j) * k0_pay3 (F := Ideal) i x y p q a b u w (ix2 r j) := by
  unfold k0_pay5
  generalize k0_pay3 (F := Ideal) i x y p q a b u w = z
  pointwise []

theorem pay4_at (g : FVec Ideal S1x1024 .f32) (k : Fin 1024) : k0_pay4 (F := Ideal) g (ix2 0 k) = g (ix2 0 k) := by
  pointwise [k0_pay4]

/-- The second result. -/
def Q (c : Dev nD) : FVec Ideal Cert.OutputReferenceIdeal.S17408x1024 .f32 := hidden (P m c) (arg7 m c)

theorem norm_at (c : Dev nD) (t : Fin cfg0.N) (r : Fin 512) (k : Fin 1024) : norm m c t (ix2 r k) = Q m c (ix2 (row t r) k) := by
  refine (pay6_at _ _ _ r k).trans (Eq.trans ?_ (hidden_at _ _ (row t r) k).symm)
  rw [pay4_at, pay5_at, scaleBlock, scale_at]
  unfold normal
  simp only [← sum_at]

/-- The call's first two results are the reference's. -/
theorem final (c : Dev nD) : (dats m 0 c).arrAt 11 cfg0.N = P m c := by
  refine (dats m 0 c).arrAt_eq_of_covers 11 (P m c) (by decide +kernel) fun t hf y => ?_
  blk_simp
  rw [after0_11, block11]
  obtain ⟨r, k, rfl⟩ : ∃ (r : Fin 512) (k : Fin 1024), y = ix2 r k := ⟨y 0, y 1, by ext a; fin_cases a <;> rfl⟩
  refine (sum_at m c t r k).trans ?_
  blk_ext [idx t]

theorem final2 (c : Dev nD) : (dats m 0 c).arrAt 12 cfg0.N = Q m c := by
  refine (dats m 0 c).arrAt_eq_of_covers 12 (Q m c) (by decide +kernel) fun t hf y => ?_
  blk_simp
  rw [after0_12, block12]
  obtain ⟨r, k, rfl⟩ : ∃ (r : Fin 512) (k : Fin 1024), y = ix2 r k := ⟨y 0, y 1, by ext a; fin_cases a <;> rfl⟩
  refine (norm_at m c t r k).trans ?_
  blk_ext [idx t]

/-- The run leaves the two results as the blocks that were written back, and the arguments as they were. -/
theorem run (ρ : Dev nD → PrngReg) :
    θ_run defs (onTc (τ := τ) (main (F := Ideal))) ⟨m, fun _ => 0, ρ⟩ fun r => ∀ c : Dev nD,
      r.2.mem ((c : Thread nD τ).loc main_v12_0) = (dats m 0 c).arrAt 11 cfg0.N
      ∧ r.2.mem ((c : Thread nD τ).loc main_v12_1) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h.1 c).1 11, (h.1 c).1 12, h.2 c⟩) (θ_run_and (run_main m ρ) (unchanged m ρ))

end Cert.OutputIdeal.Out

end
-- ==== Proof.lean ====
/- The certificate: the kernels of the experts and of the projections of the optimised layer, against the reference's own lines. -/
module

public import proofs.«01_k».proof.Defs
public import proofs.«01_k».proof.Proof.Gen.Experts
public import proofs.«01_k».proof.Proof.Gen.ExpertsIdeal
public import proofs.«01_k».proof.Proof.Gen.ExpertsReferenceIdeal
public import proofs.«01_k».proof.Proof.Gen.ExpertsReferenceIdeal.Run
public import proofs.«01_k».proof.Proof.Gen.Projections
public import proofs.«01_k».proof.Proof.Gen.Projections.Skeleton
public import proofs.«01_k».proof.Proof.Gen.Projections.Launch
public import proofs.«01_k».proof.Proof.Gen.Projections.Points
public import proofs.«01_k».proof.Proof.Gen.Projections.Frame
public import proofs.«01_k».proof.Proof.Gen.ProjectionsIdeal
public import proofs.«01_k».proof.Proof.Gen.ProjectionsIdeal.Skeleton
public import proofs.«01_k».proof.Proof.Gen.ProjectionsIdeal.Launch
public import proofs.«01_k».proof.Proof.Gen.ProjectionsIdeal.Points
public import proofs.«01_k».proof.Proof.Gen.ProjectionsIdeal.Frame
public import proofs.«01_k».proof.Proof.Gen.ProjectionsIdeal.Value
public import proofs.«01_k».proof.Proof.Gen.ProjectionsReferenceIdeal
public import proofs.«01_k».proof.Proof.Gen.ProjectionsReferenceIdeal.Run
public import proofs.«01_k».proof.Proof.Gen.Output
public import proofs.«01_k».proof.Proof.Gen.Output.Skeleton
public import proofs.«01_k».proof.Proof.Gen.Output.Launch
public import proofs.«01_k».proof.Proof.Gen.Output.Points
public import proofs.«01_k».proof.Proof.Gen.Output.Frame
public import proofs.«01_k».proof.Proof.Gen.OutputIdeal
public import proofs.«01_k».proof.Proof.Gen.OutputIdeal.Skeleton
public import proofs.«01_k».proof.Proof.Gen.OutputIdeal.Launch
public import proofs.«01_k».proof.Proof.Gen.OutputIdeal.Points
public import proofs.«01_k».proof.Proof.Gen.OutputIdeal.Frame
public import proofs.«01_k».proof.Proof.Gen.OutputReferenceIdeal
public import proofs.«01_k».proof.Proof.Gen.OutputReferenceIdeal.Run
public import proofs.«01_k».proof.Proof.Pre
public import proofs.«01_k».proof.Proof.Value
public import proofs.«01_k».proof.Proof.Proj
public import proofs.«01_k».proof.Proof.Out
public import Idealize.ShloMosaic.Lib.KernelVsHost
public import Idealize.ShloMosaic.Adequacy
public import Idealize.ShloMosaic.Init

@[expose] public section

noncomputable section

namespace Cert.Proof

open Idealize.ShloMosaic Idealize.SL.Sem Cert.ExpertsIdeal.Run

section
open Cert.ExpertsIdeal
variable {F : FTy → Type} [FloatOps F] (m : (ℓ : Loc nD τ sig) → Buf (Elt F) ℓ) (g : Dev nD → PrngReg)

/-- The precondition, over any float values. -/
abbrev Pre : Prop := ∀ c : Dev nD, @Cert.Pre_tables.fn Cert.Pre_tables.Gen.facts F _ (m (c.tc.loc main_arg0)) (m (c.tc.loc main_arg1))
  (m (c.tc.loc main_arg2)) (m (c.tc.loc main_arg3)) (m (c.tc.loc main_arg4)) (m (c.tc.loc main_arg5)) (m (c.tc.loc main_arg6)) = fun _ => 1#1

/-- The memory's tables. -/
def tables (h : Pre m) : Tab := tab _ _ _ _ _ _ _ (h 0)

theorem holds (h : Pre m) : Holds (tables m h) m :=
  ⟨fun c => by rw [Subsingleton.elim c 0]; rfl, fun c => by rw [Subsingleton.elim c 0]; rfl⟩

/-- The kernel's run over any float values: it ends, with its arguments and its semaphores as they were. -/
theorem frame (h : Pre m) : θ_run (defs (F := F)) (onTc (τ := τ) (main (F := F))) ⟨m, fun _ => 0, g⟩ (fun r =>
    (∀ c : Dev nD, r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)
      ∧ r.2.mem (c.tc.loc main_arg6) = m (c.tc.loc main_arg6)) ∧ r.2.sem = fun _ => 0) :=
  (θ_run (defs (F := F)) _ _).mono (fun r hr => ⟨ends (tables m h) m g (holds m h) r hr.1, hr.2⟩) (run (tables m h) m g (holds m h))

end

/-- The two programs have the same text: the same body at every point, -/
theorem body_eq : Cert.Experts.defs₀ (F := Bits) = Cert.ExpertsIdeal.defs₀ (F := Bits) :=
  congrArg Defs.onTc (funext fun l => funext fun a => match l, a with | 0, (_, _) => rfl)

/-- and so the same launch. -/
theorem defs_eq : Cert.Experts.defs (F := Bits) = Cert.ExpertsIdeal.defs (F := Bits) :=
  congrArg (Pipeline.defs (Cert.ExpertsIdeal.pcfgs (F := Bits))) body_eq

theorem frame_kernel : @Cert.quiescent_Experts Cert.Experts.Gen.facts Cert.Pre_tables.Gen.facts := by
  intro m g h
  rw [defs_eq]
  exact frame (F := Bits) m g h

theorem frame_ideal : @Cert.quiescent_ExpertsIdeal Cert.ExpertsIdeal.Gen.facts Cert.Pre_tables.Gen.facts := fun m g h =>
  frame (F := Ideal) m g h

theorem frame_reference : @Cert.quiescent_ExpertsReferenceIdeal Cert.ExpertsReferenceIdeal.Gen.facts := fun m g _ =>
  (θ_run Cert.ExpertsReferenceIdeal.defs _ _).mono (fun r h => ⟨fun c => (h c).2, sem_eq_zero_of_no_sems (by decide) r.2⟩)
    (Cert.ExpertsReferenceIdeal.Value.run (F := Ideal) m g)

theorem frame_reference_pre :
    @Cert.quiescent_ExpertsReferenceIdeal_pre_tables Cert.ExpertsReferenceIdeal.Gen.facts Cert.Pre_tables.Gen.facts := fun m g _ =>
  frame_reference m g trivial

/-- In the rows of the active blocks the kernel and the reference leave the same results. -/
theorem same : @Cert.algebraic_ExpertsIdeal_ExpertsReferenceIdeal_on_active Cert.ExpertsIdeal.Gen.facts
    Cert.ExpertsReferenceIdeal.Gen.facts Cert.Pre_tables.Gen.facts Cert.On_active.Gen.facts := by
  intro m g m' g' h hargs
  have hT := holds m h
  have hrow : ∀ (c : Dev Cert.ExpertsIdeal.nD) (i : Cert.ExpertsIdeal.S77824x1024.Idx), _ = 1#1 → (i 0).val < (tables m h).na * 256 :=
    fun c i hi => row_of_mask (F := Ideal) (m (c.tc.loc Cert.ExpertsIdeal.main_arg0)) (m (c.tc.loc Cert.ExpertsIdeal.main_arg2))
      (m (c.tc.loc Cert.ExpertsIdeal.main_arg3)) (m (c.tc.loc Cert.ExpertsIdeal.main_arg4)) (m (c.tc.loc Cert.ExpertsIdeal.main_arg5))
      (m (c.tc.loc Cert.ExpertsIdeal.main_arg6)) (tables m h) i hi
  refine ⟨fun c => G (tables m h) m c, ?_, ?_⟩
  · refine (θ_run Cert.ExpertsIdeal.defs _ _).mono (fun r hr c => ⟨fun i hi => ?_, ends (tables m h) m g hT r hr.1 c⟩)
      (run (tables m h) m g hT)
    rw [hT.n c] at hi
    exact (congrFun ((hr.1 c).1 (5 : Fin 6)) i).trans (array_at (tables m h) m g c i (hrow c i hi))
  · refine (θ_run Cert.ExpertsReferenceIdeal.defs _ _).mono (fun r hr c => ⟨fun i hi => ?_, (hr c).2⟩)
      (Cert.ExpertsReferenceIdeal.Value.run (F := Ideal) m' g')
    rw [hT.n c] at hi
    have hn := hrow c i hi
    obtain ⟨e0, e1, e2, e3, e4, e5, e6⟩ := hargs c
    rw [(hr c).1, Cert.ExpertsReferenceIdeal.Read.val_main_v52_eq, e0, e2, e3, e4, e5, e6, hT.e c]
    obtain ⟨p, l, rfl⟩ : ∃ (p : Fin 77824) (l : Fin 1024), i = ix2 p l := ⟨i 0, i 1, by ext a; fin_cases a <;> rfl⟩
    have hb : p.val / 256 < 304 := by omega
    have hp : (⟨p.val / 256 * 256 + p.val % 256, by omega⟩ : Fin 77824) = p := Fin.ext (by show p.val / 256 * 256 + p.val % 256 = p.val; omega)
    have key := Cert.ExpertsReferenceIdeal.Ffn.result_at (tables m h).e (m (c.tc.loc Cert.ExpertsIdeal.main_arg2))
      (m (c.tc.loc Cert.ExpertsIdeal.main_arg3)) (m (c.tc.loc Cert.ExpertsIdeal.main_arg4)) (m (c.tc.loc Cert.ExpertsIdeal.main_arg5))
      (m (c.tc.loc Cert.ExpertsIdeal.main_arg6)) ⟨p.val / 256, hb⟩ ⟨p.val % 256, Nat.mod_lt _ (by decide)⟩
      (expertAt (tables m h) ⟨p.val / 256, hb⟩) rfl l
    rw [hp] at key
    exact key

theorem projections_reference_frame : @Cert.quiescent_ProjectionsReferenceIdeal Cert.ProjectionsReferenceIdeal.Gen.facts := fun m g _ =>
  (θ_run Cert.ProjectionsReferenceIdeal.defs _ _).mono (fun r h => ⟨fun c => (h c).2.2.2.2.2.2.2.2.2, sem_eq_zero_of_no_sems (by decide) r.2⟩)
    (Cert.ProjectionsReferenceIdeal.Value.run (F := Ideal) m g)

set_option maxHeartbeats 4000000 in
/-- The nine results of the projections are the reference's. -/
theorem same_projections :
    @Cert.algebraic_ProjectionsIdeal_ProjectionsReferenceIdeal Cert.ProjectionsIdeal.Gen.facts Cert.ProjectionsReferenceIdeal.Gen.facts := by
  intro m g m' g' _ hargs
  refine ⟨fun c => (Cert.ProjectionsIdeal.Gen.dats m 0 c).arrAt 9 Cert.ProjectionsIdeal.cfg0.N,
    fun c => (Cert.ProjectionsIdeal.Gen.dats m 0 c).arrAt 10 Cert.ProjectionsIdeal.cfg0.N,
    fun c => (Cert.ProjectionsIdeal.Gen.dats m 0 c).arrAt 11 Cert.ProjectionsIdeal.cfg0.N,
    fun c => (Cert.ProjectionsIdeal.Gen.dats m 0 c).arrAt 12 Cert.ProjectionsIdeal.cfg0.N,
    fun c => (Cert.ProjectionsIdeal.Gen.dats m 0 c).arrAt 13 Cert.ProjectionsIdeal.cfg0.N,
    fun c => (Cert.ProjectionsIdeal.Gen.dats m 0 c).arrAt 14 Cert.ProjectionsIdeal.cfg0.N,
    fun c => (Cert.ProjectionsIdeal.Gen.dats m 0 c).arrAt 15 Cert.ProjectionsIdeal.cfg0.N,
    fun c => (Cert.ProjectionsIdeal.Gen.dats m 0 c).arrAt 16 Cert.ProjectionsIdeal.cfg0.N,
    fun c => (Cert.ProjectionsIdeal.Gen.dats m 0 c).arrAt 17 Cert.ProjectionsIdeal.cfg0.N,
    Cert.ProjectionsIdeal.Value.run_blocks m g, ?_⟩
  refine (θ_run Cert.ProjectionsReferenceIdeal.defs _ _).mono (fun r h c => ?_) (Cert.ProjectionsReferenceIdeal.Proj.run m' g')
  obtain ⟨e0, e1, e2, e3, e4, e5⟩ := hargs c
  have eP : Cert.ProjectionsReferenceIdeal.Proj.P m' c = Cert.ProjectionsIdeal.Proj.P m c := by
    unfold Cert.ProjectionsReferenceIdeal.Proj.P
    rw [e0, e1, e2, e3]
    rfl
  obtain ⟨h0, h1, h2, h3, h4, h5, h6, h7, h8, kept⟩ := h c
  rw [eP] at h0 h1 h2 h3 h4 h5 h6 h7 h8
  rw [e4, e5] at h7 h8
  exact ⟨h0.trans (Cert.ProjectionsIdeal.Proj.final0 m c).symm,
    h1.trans (Cert.ProjectionsIdeal.Proj.final1 m c).symm,
    h2.trans (Cert.ProjectionsIdeal.Proj.final2 m c).symm,
    h3.trans (Cert.ProjectionsIdeal.Proj.final3 m c).symm,
    h4.trans (Cert.ProjectionsIdeal.Proj.final4 m c).symm,
    h5.trans (Cert.ProjectionsIdeal.Proj.final5 m c).symm,
    h6.trans (Cert.ProjectionsIdeal.Proj.final6 m c).symm,
    h7.trans (Cert.ProjectionsIdeal.Proj.final7 m c).symm,
    h8.trans (Cert.ProjectionsIdeal.Proj.final8 m c).symm, kept⟩

theorem output_reference_frame : @Cert.quiescent_OutputReferenceIdeal Cert.OutputReferenceIdeal.Gen.facts := fun m g _ =>
  (θ_run Cert.OutputReferenceIdeal.defs _ _).mono (fun r h => ⟨fun c => (h c).2.2, sem_eq_zero_of_no_sems (by decide) r.2⟩)
    (Cert.OutputReferenceIdeal.Value.run (F := Ideal) m g)

/-- The sum of the tokens and the output projection, and its norm, are the reference's. -/
theorem same_output : @Cert.algebraic_OutputIdeal_OutputReferenceIdeal Cert.OutputIdeal.Gen.facts Cert.OutputReferenceIdeal.Gen.facts := by
  intro m g m' g' _ hargs
  refine ⟨fun c => (Cert.OutputIdeal.Gen.dats m 0 c).arrAt 11 Cert.OutputIdeal.cfg0.N,
    fun c => (Cert.OutputIdeal.Gen.dats m 0 c).arrAt 12 Cert.OutputIdeal.cfg0.N,
    Cert.OutputIdeal.Out.run m g, ?_⟩
  refine (θ_run Cert.OutputReferenceIdeal.defs _ _).mono (fun r h c => ?_) (Cert.OutputReferenceIdeal.Out.result_run m' g')
  obtain ⟨e0, e1, e2, e3, e4, e5, e6, e7, -⟩ := hargs c
  have eP : Cert.OutputReferenceIdeal.Out.P m' c = Cert.OutputIdeal.Out.P m c := by
    unfold Cert.OutputReferenceIdeal.Out.P
    rw [e0, e1, e2, e3, e4, e5, e6]
    rfl
  obtain ⟨h0, h1, kept⟩ := h c
  rw [eP] at h0 h1
  rw [e7] at h1
  exact ⟨h0.trans (Cert.OutputIdeal.Out.final m c).symm, h1.trans (Cert.OutputIdeal.Out.final2 m c).symm, kept⟩

theorem claim : Cert.Claim :=
  ⟨Cert.Experts.Gen.facts, Cert.ExpertsIdeal.Gen.facts, Cert.ExpertsReferenceIdeal.Gen.facts, Cert.Projections.Gen.facts,
    Cert.ProjectionsIdeal.Gen.facts, Cert.ProjectionsReferenceIdeal.Gen.facts, Cert.Output.Gen.facts,
    Cert.OutputIdeal.Gen.facts, Cert.OutputReferenceIdeal.Gen.facts,
    Cert.Pre_tables.Gen.facts, Cert.On_active.Gen.facts, frame_kernel, frame_ideal, frame_reference, frame_reference_pre,
    fun m g _ => Cert.Projections.Gen.frame m g, fun m g _ => Cert.ProjectionsIdeal.Gen.frame m g, projections_reference_frame,
    fun m g _ => Cert.Output.Gen.frame m g, fun m g _ => Cert.OutputIdeal.Gen.frame m g, output_reference_frame,
    trivial, same, trivial, same_projections, trivial, same_output⟩

end Cert.Proof

end
